-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_separated [hKernelIdeal : Cert.KernelIdeal.Facts] [hReferenceIdeal : Cert.ReferenceIdeal.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 2] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_separated.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_separated.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_separated : Cert.On_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separated (hKernelIdeal := hKernelIdeal) (hReferenceIdeal := hReferenceIdeal) (hOn_separated := hOn_separated)
-- ==== On_separated.lean ====
abbrev S1024x16384 : Shape := ⟨2, ![1024, 16384]⟩
abbrev S1024x32 : Shape := ⟨2, ![1024, 32]⟩
abbrev S1024x31 : Shape := ⟨2, ![1024, 31]⟩
abbrev S31 : Shape := ⟨1, ![31]⟩
abbrev S1x31 : Shape := ⟨2, ![1, 31]⟩
abbrev S32 : Shape := ⟨1, ![32]⟩
abbrev S32x1 : Shape := ⟨2, ![32, 1]⟩
abbrev S32x31 : Shape := ⟨2, ![32, 31]⟩
abbrev S1024x1x31 : Shape := ⟨3, ![1024, 1, 31]⟩
abbrev S1x32x31 : Shape := ⟨3, ![1, 32, 31]⟩
abbrev S1024x32x31 : Shape := ⟨3, ![1024, 32, 31]⟩
abbrev S_ : Shape := ⟨0, ![]⟩
abbrev S1024x4x32x128x1 : Shape := ⟨5, ![1024, 4, 32, 128, 1]⟩
abbrev S1024x1x1x1x32 : Shape := ⟨5, ![1024, 1, 1, 1, 32]⟩
abbrev S1024x4x32x128x32 : Shape := ⟨5, ![1024, 4, 32, 128, 32]⟩
abbrev S1024x4x128x32 : Shape := ⟨4, ![1024, 4, 128, 32]⟩
abbrev S1024x1 : Shape := ⟨2, ![1024, 1]⟩

class Facts : Prop where
  sliceFits_S1024x16384_S1024x32 : S1024x16384.Slices (fun _ => 0) S1024x32
  slices_S1024x32_S1024x31_0_0 : S1024x32.Slices ![0, 0] S1024x31
  slices_S1024x32_S1024x31_0_1 : S1024x32.Slices ![0, 1] S1024x31
  bcast_S31_S1x31_1 : S31.BroadcastsInDim S1x31 (![1] : Fin 1 → Fin S1x31.rank)
  bcast_S32_S32x1_0 : S32.BroadcastsInDim S32x1 (![0] : Fin 1 → Fin S32x1.rank)
  bcast_S1x31_S32x31_0_1 : S1x31.BroadcastsInDim S32x31 (![0, 1] : Fin 2 → Fin S32x31.rank)
  bcast_S32x1_S32x31_0_1 : S32x1.BroadcastsInDim S32x31 (![0, 1] : Fin 2 → Fin S32x31.rank)
  bcast_S1024x31_S1024x1x31_0_2 : S1024x31.BroadcastsInDim S1024x1x31 (![0, 2] : Fin 2 → Fin S1024x1x31.rank)
  bcast_S32x31_S1x32x31_1_2 : S32x31.BroadcastsInDim S1x32x31 (![1, 2] : Fin 2 → Fin S1x32x31.rank)
  bcast_S1024x1x31_S1024x32x31_0_1_2 : S1024x1x31.BroadcastsInDim S1024x32x31 (![0, 1, 2] : Fin 3 → Fin S1024x32x31.rank)
  bcast_S1x32x31_S1024x32x31_0_1_2 : S1x32x31.BroadcastsInDim S1024x32x31 (![0, 1, 2] : Fin 3 → Fin S1024x32x31.rank)
  reducesTo_S1024x32x31_S1024x32_d2 : S1024x32x31.ReducesTo [2] S1024x32
  h_S_ : 0 < S_.numel
  shapeCasts_S1024x16384_S1024x4x32x128x1 : S1024x16384.ShapeCasts S1024x4x32x128x1
  shapeCasts_S1024x32_S1024x1x1x1x32 : S1024x32.ShapeCasts S1024x1x1x1x32
  bcast_S1024x4x32x128x1_S1024x4x32x128x32_0_1_2_3_4 : S1024x4x32x128x1.BroadcastsInDim S1024x4x32x128x32 (![0, 1, 2, 3, 4] : Fin 5 → Fin S1024x4x32x128x32.rank)
  bcast_S1024x1x1x1x32_S1024x4x32x128x32_0_1_2_3_4 : S1024x1x1x1x32.BroadcastsInDim S1024x4x32x128x32 (![0, 1, 2, 3, 4] : Fin 5 → Fin S1024x4x32x128x32.rank)
  natLt_1_32 : 1 < 32
  reducesTo_S1024x4x32x128x32_S1024x4x128x32_d2 : S1024x4x32x128x32.ReducesTo [2] S1024x4x128x32
  bcast_S_S1024x4x128x32 : S_.BroadcastsInDim S1024x4x128x32 (![] : Fin 0 → Fin S1024x4x128x32.rank)
  reducesTo_S1024x4x128x32_S1024x32_d1_2 : S1024x4x128x32.ReducesTo [1, 2] S1024x32
  bcast_S_S1024x32 : S_.BroadcastsInDim S1024x32 (![] : Fin 0 → Fin S1024x32.rank)
  slices_S1024x32_S1024x1_0_0 : S1024x32.Slices ![0, 0] S1024x1
  bcast_S_S1024x1 : S_.BroadcastsInDim S1024x1 (![] : Fin 0 → Fin S1024x1.rank)
  bcast_S1024x1_S1024x32_0_1 : S1024x1.BroadcastsInDim S1024x32 (![0, 1] : Fin 2 → Fin S1024x32.rank)

variable [Facts]

def fn_part1 {F : FTy → Type} [FloatOps F] (main_values : FVec F S1024x32 .f32) (main_v15 : IVec S1024x32 1) (main_v20 : IVec S1024x4x32x128x32 1) : IVec S1024x32 1 :=
  let main_v21 : IVec S1024x4x32x128x32 32 := (extui 32 · natLt_1_32) main_v20
  let main_c_0 : IVec S_ 32 := constantI S_ 32 0#32
  let main_v22 : IVec S1024x4x128x32 32 := (fun x v => Host.reduce IntOp.addi x v reducesTo_S1024x4x32x128x32_S1024x4x128x32_d2 h_S_) main_v21 main_c_0
  let main_c_1 : IVec S_ 32 := constantI S_ 32 4#32
  let main_v23 : IVec S1024x4x128x32 32 := broadcastInDim S1024x4x128x32 ![] bcast_S_S1024x4x128x32 main_c_1
  let main_v24 : IVec S1024x4x128x32 1 := cmpi .sle main_v22 main_v23
  let main_c_2 : IVec S_ 1 := constantI S_ 1 1#1
  let main_v25 : IVec S1024x32 1 := (fun x v => Host.reduce IntOp.andi x v reducesTo_S1024x4x128x32_S1024x32_d1_2 h_S_) main_v24 main_c_2
  let main_cst : FVec F S_ .f32 := constant S_ .f32 0xFF800000#32
  let main_v26 : FVec F S1024x32 .f32 := broadcastInDim S1024x32 ![] bcast_S_S1024x32 main_cst
  let main_v27 : IVec S1024x32 1 := cmpf .oeq main_values main_v26
  let main_v28 : FVec F S1024x1 .f32 := (extractStridedSlice S1024x1 ![0, 0] · slices_S1024x32_S1024x1_0_0) main_values
  let main_cst_3 : FVec F S_ .f32 := constant S_ .f32 0x7F800000#32
  let main_v29 : FVec F S1024x1 .f32 := broadcastInDim S1024x1 ![] bcast_S_S1024x1 main_cst_3
  let main_v30 : IVec S1024x1 1 := cmpf .olt main_v28 main_v29
  let main_v31 : IVec S1024x32 1 := broadcastInDim S1024x32 ![0, 1] bcast_S1024x1_S1024x32_0_1 main_v30
  let main_v32 : IVec S1024x32 1 := andi main_v31 main_v15
  let main_v33 : IVec S1024x32 1 := andi main_v32 main_v25
  let main_v34 : IVec S1024x32 1 := ori main_v27 main_v33
  main_v34

def fn {F : FTy → Type} [FloatOps F] (main_arg0 : FVec F S1024x16384 .f32) : IVec S1024x32 1 :=
  let main_values : FVec F S1024x32 .f32 := (fun x => (Host.topK S1024x32 1 (FloatOps.cmpfTotal .gt) x sliceFits_S1024x16384_S1024x32).1) main_arg0
  let main_indices : IVec S1024x32 32 := (fun x => (Host.topK S1024x32 1 (FloatOps.cmpfTotal .gt) x sliceFits_S1024x16384_S1024x32).2) main_arg0
  let main_v0 : FVec F S1024x31 .f32 := (extractStridedSlice S1024x31 ![0, 0] · slices_S1024x32_S1024x31_0_0) main_values
  let main_v1 : FVec F S1024x31 .f32 := (extractStridedSlice S1024x31 ![0, 1] · slices_S1024x32_S1024x31_0_1) main_values
  let main_v2 : IVec S1024x31 1 := cmpf .ogt main_v0 main_v1
  let main_v3 : IVec S31 32 := iotaInDim S31 32 0
  let main_v4 : IVec S1x31 32 := broadcastInDim S1x31 ![1] bcast_S31_S1x31_1 main_v3
  let main_v5 : IVec S32 32 := iotaInDim S32 32 0
  let main_v6 : IVec S32x1 32 := broadcastInDim S32x1 ![0] bcast_S32_S32x1_0 main_v5
  let main_v7 : IVec S32x31 32 := broadcastInDim S32x31 ![0, 1] bcast_S1x31_S32x31_0_1 main_v4
  let main_v8 : IVec S32x31 32 := broadcastInDim S32x31 ![0, 1] bcast_S32x1_S32x31_0_1 main_v6
  let main_v9 : IVec S32x31 1 := cmpi .sge main_v7 main_v8
  let main_v10 : IVec S1024x1x31 1 := broadcastInDim S1024x1x31 ![0, 2] bcast_S1024x31_S1024x1x31_0_2 main_v2
  let main_v11 : IVec S1x32x31 1 := broadcastInDim S1x32x31 ![1, 2] bcast_S32x31_S1x32x31_1_2 main_v9
  let main_v12 : IVec S1024x32x31 1 := broadcastInDim S1024x32x31 ![0, 1, 2] bcast_S1024x1x31_S1024x32x31_0_1_2 main_v10
  let main_v13 : IVec S1024x32x31 1 := broadcastInDim S1024x32x31 ![0, 1, 2] bcast_S1x32x31_S1024x32x31_0_1_2 main_v11
  let main_v14 : IVec S1024x32x31 1 := ori main_v12 main_v13
  let main_c : IVec S_ 1 := constantI S_ 1 1#1
  let main_v15 : IVec S1024x32 1 := (fun x v => Host.reduce IntOp.andi x v reducesTo_S1024x32x31_S1024x32_d2 h_S_) main_v14 main_c
  let main_v16 : FVec F S1024x4x32x128x1 .f32 := shapeCast S1024x4x32x128x1 main_arg0 shapeCasts_S1024x16384_S1024x4x32x128x1
  let main_v17 : FVec F S1024x1x1x1x32 .f32 := shapeCast S1024x1x1x1x32 main_values shapeCasts_S1024x32_S1024x1x1x1x32
  let main_v18 : FVec F S1024x4x32x128x32 .f32 := broadcastInDim S1024x4x32x128x32 ![0, 1, 2, 3, 4] bcast_S1024x4x32x128x1_S1024x4x32x128x32_0_1_2_3_4 main_v16
  let main_v19 : FVec F S1024x4x32x128x32 .f32 := broadcastInDim S1024x4x32x128x32 ![0, 1, 2, 3, 4] bcast_S1024x1x1x1x32_S1024x4x32x128x32_0_1_2_3_4 main_v17
  let main_v20 : IVec S1024x4x32x128x32 1 := cmpf .oge main_v18 main_v19
  fn_part1 (F := F) main_values main_v15 main_v20
-- ==== Kernel.lean ====
abbrev S1024x8192 : Shape := ⟨2, ![1024, 8192]⟩
abbrev S1024x32 : Shape := ⟨2, ![1024, 32]⟩
abbrev S1024x512 : Shape := ⟨2, ![1024, 512]⟩
abbrev S3 : Shape := ⟨1, ![3]⟩
abbrev S1024x128 : Shape := ⟨2, ![1024, 128]⟩
abbrev S1024x1 : Shape := ⟨2, ![1024, 1]⟩
abbrev S1024 : Shape := ⟨1, ![1024]⟩
abbrev S_ : Shape := ⟨0, ![]⟩
abbrev S1 : Shape := ⟨1, ![1]⟩

abbrev nBuf : Space → Nat
  | .hbm => 2
  | .vmem => 7
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x8192, .f32⟩
  | .local _ .vmem, ⟨1, _⟩ => ⟨S1024x32, .f32⟩
  | .local _ .vmem, ⟨2, _⟩ => ⟨S1024x512, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

@[reducible] def k0_t1_loop : Scf.Loop 32 :=
  let c0_i32 : BitVec 32 := 0#32
  let c4_i32 : BitVec 32 := 4#32
  let v8 : BitVec 32 := Scalar.addi c0_i32 c4_i32
  let c1_i32_2 : BitVec 32 := 1#32
  ⟨c0_i32, v8, c1_i32_2⟩
@[reducible] def k0_t2_loop : Scf.Loop 32 :=
  let c0_i32_88 : BitVec 32 := 0#32
  let c4_i32_89 : BitVec 32 := 4#32
  let v99 : BitVec 32 := Scalar.addi c0_i32_88 c4_i32_89
  let c1_i32_90 : BitVec 32 := 1#32
  ⟨c0_i32_88, v99, c1_i32_90⟩
def k0_off1 (d0 : Dev nD) (k0_t2 : Fin k0_t2_loop.trips) (c0_i32_93 : BitVec 32) : Fin 2 → Nat :=
  let c0_95 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v6 : BitVec 32 := Scalar.muli v5 c4096_i32
  let c0_i32_88 : BitVec 32 := 0#32
  let c1_i32_90 : BitVec 32 := 1#32
  let arg11 : BitVec 32 := Scf.iv c0_i32_88 c1_i32_90 k0_t2
  let c8_i32 : BitVec 32 := 8#32
  let v106 : BitVec 32 := Scalar.muli arg11 c8_i32
  let v107 : BitVec 32 := Scalar.addi v106 c0_i32_93
  let c128_i32_94 : BitVec 32 := 128#32
  let v108 : BitVec 32 := Scalar.muli v107 c128_i32_94
  let v109 : BitVec 32 := Scalar.addi v6 v108
  let v110 : Index := Scalar.indexCast v109
  ![0, v110.toNat]
def k0_off2 (k0_t1 : Fin k0_t1_loop.trips) : Fin 2 → Nat :=
  let c0_92 : Index := 0#32
  let c0_i32 : BitVec 32 := 0#32
  let c1_i32_2 : BitVec 32 := 1#32
  let arg9 : BitVec 32 := Scf.iv c0_i32 c1_i32_2 k0_t1
  let c128_i32 : BitVec 32 := 128#32
  let v101 : BitVec 32 := Scalar.muli arg9 c128_i32
  let v102 : Index := Scalar.indexCast v101
  ![0, v102.toNat]
@[reducible] def k0_t3_loop : Scf.Loop 32 :=
  let c0_i32_7 : BitVec 32 := 0#32
  let c32_i32 : BitVec 32 := 32#32
  let v14 : BitVec 32 := Scalar.addi c0_i32_7 c32_i32
  let c1_i32_8 : BitVec 32 := 1#32
  ⟨c0_i32_7, v14, c1_i32_8⟩
def k0_dev1 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v24 : BitVec 32 := Scalar.muli v2 c2_i32_17
  let v25 : BitVec 32 := Scalar.addi c0_i32_18 v24
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_12 v5
  let c1_i32_19 : BitVec 32 := 1#32
  let v26 : BitVec 32 := Scalar.muli v20 c1_i32_19
  let v27 : BitVec 32 := Scalar.addi v25 v26
  v27.toNat
def k0_dev2 (d0 : Dev nD) : Nat :=
  let c0_i32_22 : BitVec 32 := 0#32
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v21 : BitVec 32 := Scalar.subi c1_i32_13 v2
  let c2_i32_21 : BitVec 32 := 2#32
  let v28 : BitVec 32 := Scalar.muli v21 c2_i32_21
  let v29 : BitVec 32 := Scalar.addi c0_i32_22 v28
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v30 : BitVec 32 := Scalar.muli v5 c1_i32_23
  let v31 : BitVec 32 := Scalar.addi v29 v30
  v31.toNat
def k0_dev3 (d0 : Dev nD) : Nat :=
  let c0_i32_26 : BitVec 32 := 0#32
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 32 := Scalar.subi c1_i32_14 v2
  let c2_i32_25 : BitVec 32 := 2#32
  let v32 : BitVec 32 := Scalar.muli v22 c2_i32_25
  let v33 : BitVec 32 := Scalar.addi c0_i32_26 v32
  let c1_i32_15 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_15 v5
  let c1_i32_27 : BitVec 32 := 1#32
  let v34 : BitVec 32 := Scalar.muli v23 c1_i32_27
  let v35 : BitVec 32 := Scalar.addi v33 v34
  v35.toNat
def k0_dev4 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v40 : BitVec 32 := Scalar.muli v2 c2_i32_34
  let v41 : BitVec 32 := Scalar.addi c0_i32_35 v40
  let c1_i32_28 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v36 : BitVec 32 := Scalar.subi c1_i32_28 v5
  let c1_i32_36 : BitVec 32 := 1#32
  let v42 : BitVec 32 := Scalar.muli v36 c1_i32_36
  let v43 : BitVec 32 := Scalar.addi v41 v42
  v43.toNat
def k0_dev5 (d0 : Dev nD) : Nat :=
  let c0_i32_40 : BitVec 32 := 0#32
  let c1_i32_29 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v37 : BitVec 32 := Scalar.subi c1_i32_29 v2
  let c2_i32_39 : BitVec 32 := 2#32
  let v48 : BitVec 32 := Scalar.muli v37 c2_i32_39
  let v49 : BitVec 32 := Scalar.addi c0_i32_40 v48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v50 : BitVec 32 := Scalar.muli v5 c1_i32_41
  let v51 : BitVec 32 := Scalar.addi v49 v50
  v51.toNat
def k0_dev6 (d0 : Dev nD) : Nat :=
  let c0_i32_45 : BitVec 32 := 0#32
  let c1_i32_30 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v38 : BitVec 32 := Scalar.subi c1_i32_30 v2
  let c2_i32_44 : BitVec 32 := 2#32
  let v56 : BitVec 32 := Scalar.muli v38 c2_i32_44
  let v57 : BitVec 32 := Scalar.addi c0_i32_45 v56
  let c1_i32_31 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v39 : BitVec 32 := Scalar.subi c1_i32_31 v5
  let c1_i32_46 : BitVec 32 := 1#32
  let v58 : BitVec 32 := Scalar.muli v39 c1_i32_46
  let v59 : BitVec 32 := Scalar.addi v57 v58
  v59.toNat
@[reducible] def k0_t4_loop : Scf.Loop 32 :=
  let c0_i32_81 : BitVec 32 := 0#32
  let c32_i32_82 : BitVec 32 := 32#32
  let v95 : BitVec 32 := Scalar.addi c0_i32_81 c32_i32_82
  let c1_i32_83 : BitVec 32 := 1#32
  ⟨c0_i32_81, v95, c1_i32_83⟩
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.KernelIdealLocal.lean ====
/-
# 01_k, `KernelIdeal`: what one device computes before and after the exchange

A device looks at one half of its block: 32 slabs of 128 columns. Four passes run over the slabs, each keeping in
every lane the largest entry below the lane's previous one (`laneAt`, `passVal`); the four results side by side are
the candidates (`candC`). `extractAt` then takes the candidates' (or the gathered lists') distinct values from the
largest down, one per trip. This module names those values and runs the three loops that compute them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

/-! ## The resource algebra: the pipeline library's copy and the exchange's rounds (duties `Fin 3`) -/

abbrev UB : Type := URounds (GSem nD τ sig) (Fin 3)
abbrev UU : Type := UR sig nD τ × UB

local notation "𝕄" => MT nD τ sig Unit (Elt F) ℕ UU ℕ

abbrev 𝒱₀ : Variants := Variants.none

/-! ## The memrefs -/

abbrev xM : Memref sig .tc .vmem S1024x8192 .f32 := Memref.whole cc0_stg0_0
abbrev oM : Memref sig .tc .vmem S1024x32 .f32 := Memref.whole cc0_stg1_0
abbrev candM : Memref sig .tc .vmem S1024x512 .f32 := Memref.whole cc0_scratch0
abbrev ltM : Memref sig .tc .vmem S1024x32 .f32 := Memref.whole cc0_scratch1
abbrev yM : Memref sig .tc .vmem S1024x32 .f32 := Memref.whole cc0_scratch2
abbrev zM : Memref sig .tc .vmem S1024x32 .f32 := Memref.whole cc0_scratch3
abbrev dM : Memref sig .tc .vmem S1024x32 .f32 := Memref.whole cc0_scratch4

/-! ## The values -/

/-- Slab `8 k + r` of device `d`'s half of the block `x`. -/
def slab (d : Dev nD) (x : Vec F S1024x8192 .f32) (k : Fin k0_t2_loop.trips) (r : Fin 8) : Vec F S1024x128 .f32 :=
  xM.view.readAt (Elt F) (Rect.unit (s := S1024x8192) (k0_off1 d k (BitVec.ofNat 32 r.val)) S1024x128.size (k0_off1_inb d k r)).toLoadRect x

/-- One trip over eight slabs: the running lane maximum `acc` of the entries below `prev`, extended. -/
def laneStep (d : Dev nD) (x : Vec F S1024x8192 .f32) (prev : FVec F S1024x128 .f32) (k : Fin k0_t2_loop.trips) (acc : FVec F S1024x128 .f32) : FVec F S1024x128 .f32 :=
  k0_pay10 prev (k0_pay7 prev (k0_pay5 prev acc (slab d x k 0) (slab d x k 1) (slab d x k 2)) (k0_pay6 (slab d x k 3))
    (slab d x k 4) (slab d x k 5) (slab d x k 6)) (slab d x k 7)

/-- The running lane maximum before trip `n`. -/
def laneAt (d : Dev nD) (x : Vec F S1024x8192 .f32) (prev : FVec F S1024x128 .f32) : ℕ → FVec F S1024x128 .f32
  | 0 => k0_pay9
  | n + 1 => if h : n < k0_t2_loop.trips then laneStep d x prev ⟨n, h⟩ (laneAt d x prev n) else laneAt d x prev n

theorem laneAt_succ (d : Dev nD) (x : Vec F S1024x8192 .f32) (prev : FVec F S1024x128 .f32) (k : Fin k0_t2_loop.trips) :
    laneAt d x prev (k.val + 1) = laneStep d x prev k (laneAt d x prev k.val) := by rw [laneAt, dif_pos k.isLt]

/-- The lanes' value carried into pass `n`: at first the top, then what the pass before found. -/
def passVal (d : Dev nD) (x : Vec F S1024x8192 .f32) : ℕ → FVec F S1024x128 .f32
  | 0 => k0_pay8
  | n + 1 => laneAt d x (passVal d x n) k0_t2_loop.trips

/-- A candidate column `128 p + l` splits into the pass `p` and the lane `l`. -/
def laneOf (i : S1024x512.Idx) : S1024x128.Idx := ix2 (n0 := 1024) (n1 := 128) (i 0) ⟨(i 1).val % 128, Nat.mod_lt _ (by decide)⟩

/-- The candidates: in column `128 p + l` what pass `p` found in lane `l`. -/
def candC (d : Dev nD) (x : Vec F S1024x8192 .f32) : Vec F S1024x512 .f32 :=
  fun i => passVal d x ((i 1).val / 128 + 1) (laneOf i)

/-- The local extraction before trip `n`: the last value taken, and the list so far. -/
def locAt (v : Vec F S1024x512 .f32) : ℕ → FVec F S1024x1 .f32 × FVec F S1024x32 .f32
  | 0 => (k0_pay12, k0_pay13)
  | n + 1 => if h : n < k0_t3_loop.trips then (k0_pay14 v (locAt v n).1, k0_pay15 v ⟨n, h⟩ (locAt v n).1 (locAt v n).2) else locAt v n

theorem locAt_succ (v : Vec F S1024x512 .f32) (k : Fin k0_t3_loop.trips) :
    locAt v (k.val + 1) = (k0_pay14 v (locAt v k.val).1, k0_pay15 v k (locAt v k.val).1 (locAt v k.val).2) := by rw [locAt, dif_pos k.isLt]

/-- The device's own list. -/
def ltC (d : Dev nD) (x : Vec F S1024x8192 .f32) : Vec F S1024x32 .f32 := k0_pay16 (locAt (candC d x) k0_t3_loop.trips).2

/-- The last extraction, of the four lists `a b e g`, before trip `n`. -/
def finAt (a b e g : Vec F S1024x32 .f32) : ℕ → FVec F S1024x1 .f32 × FVec F S1024x32 .f32
  | 0 => (k0_pay1, k0_pay2)
  | n + 1 => if h : n < k0_t4_loop.trips then (k0_pay3 a b e g (finAt a b e g n).1,
      k0_pay4 (iota .tc S1024x32 32 [1] iota_S1024x32_d1_w32) a b e g ⟨n, h⟩ (finAt a b e g n).1 (finAt a b e g n).2) else finAt a b e g n

theorem finAt_succ (a b e g : Vec F S1024x32 .f32) (k : Fin k0_t4_loop.trips) :
    finAt a b e g (k.val + 1) = (k0_pay3 a b e g (finAt a b e g k.val).1,
      k0_pay4 (iota .tc S1024x32 32 [1] iota_S1024x32_d1_w32) a b e g k (finAt a b e g k.val).1 (finAt a b e g k.val).2) := by
  rw [finAt, dif_pos k.isLt]

/-- The result: the extraction of the four lists. -/
def outC (a b e g : Vec F S1024x32 .f32) : Vec F S1024x32 .f32 := (finAt a b e g k0_t4_loop.trips).2

/-! ## The pass loop -/

theorem trips1 : k0_t1_loop.trips = 4 := by decide
theorem trips2 : k0_t2_loop.trips = 4 := by decide
theorem trips3 : k0_t3_loop.trips = 32 := by decide
theorem trips4 : k0_t4_loop.trips = 32 := by decide

variable (s5 s6 : DmaSems sig S3)

/-- One trip over eight slabs. -/
theorem t2_trip (c : Dev nD) (x : Buf (Elt F) ((c : Thread nD τ).loc cc0_stg0_0)) (v6 : BitVec 32) (prev : FVec F S1024x128 .f32)
    (k : Fin k0_t2_loop.trips) (acc : FVec F S1024x128 .f32) :
    iprop((((c : Thread nD τ).loc cc0_stg0_0) ↦{fullShare} x) ∗ ⌜acc = laneAt c x prev k.val⌝)
      ⊢ (wp frame (wpE (defs₀ (F := F)) 𝒱₀ (c : Thread nD τ) none) Set.univ
          (k0_t2_body xM (Memref.isWhole_whole _) oM (Memref.isWhole_whole _) candM (Memref.isWhole_whole _) ltM (Memref.isWhole_whole _)
            yM (Memref.isWhole_whole _) zM (Memref.isWhole_whole _) dM (Memref.isWhole_whole _) s5 s6 c v6 prev k acc)
          (fun acc' => iprop((((c : Thread nD τ).loc cc0_stg0_0) ↦{fullShare} x) ∗ ⌜acc' = laneAt c x prev (k.val + 1)⌝)) : sProp 𝕄) := by
  unfold k0_t2_body
  simp only [k0_part1_eq_skeleton, k0_part2_eq_skeleton]
  unfold k0_part1_skel k0_part2_skel
  simp only [Prog.lift, Prog.bind_op, Prog.bind_ret, Prog.pure_eq_ret]
  iintro ⟨Hx, %hacc⟩
  subst hacc
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  rw [wp_ret]; imodintro
  isplitl [Hx]; · iexact Hx
  ipureintro
  rw [laneAt_succ]; rfl

/-- The write of pass `k`'s value into its slab keeps the earlier passes' columns and fills the pass's own. -/
theorem cand_write (d : Dev nD) (x : Vec F S1024x8192 .f32) (k : Fin k0_t1_loop.trips) (f : Vec F S1024x512 .f32)
    (hf : ∀ i : S1024x512.Idx, (i 1).val < 128 * k.val → f i = candC d x i) (i : S1024x512.Idx) (hi : (i 1).val < 128 * (k.val + 1)) :
    ((candM.access (Rect.unit (s := S1024x512) (k0_off2 k) S1024x128.size (k0_off2_inb k)) : View sig .tc _ _ _).write (Elt F) f
      (k0_pay11 (passVal d x (k.val + 1))) Finset.univ) i = candC d x i := by
  have h0 : (i 0).val < 1024 := (i 0).isLt
  by_cases hk : (i 1).val < 128 * k.val
  · rw [View.write_of_not_mem, hf i hk]
    intro hm
    have hm' : i ∈ (candM.access (Rect.unit (s := S1024x512) (k0_off2 k) S1024x128.size (k0_off2_inb k)) : View sig .tc _ _ _).set := hm
    rw [View.set_slice_whole, Rect.mem_set_unit] at hm'
    have := (hm' 1).1
    rw [k0_off2_eq] at this
    exact absurd hk (Nat.not_lt.2 this)
  · have hi' : i = (candM.access (Rect.unit (s := S1024x512) (k0_off2 k) S1024x128.size (k0_off2_inb k)) : View sig .tc _ _ _).emb
        (ix2 (n0 := 1024) (n1 := 128) (i 0) ⟨(i 1).val - 128 * k.val, by omega⟩) := by
      refine funext fun a => Fin.ext ?_
      show (i a).val = ((Rect.unit (s := S1024x512) (k0_off2 k) S1024x128.size (k0_off2_inb k)).emb _ a : ℕ)
      rw [Rect.emb_apply]
      have e := congrFun (k0_off2_eq k) a
      match a with
      | ⟨0, _⟩ =>
        show (i 0).val = k0_off2 k 0 + 1 * (i 0).val
        rw [show k0_off2 k 0 = 0 from e]; omega
      | ⟨1, _⟩ =>
        show (i 1).val = k0_off2 k 1 + 1 * ((i 1).val - 128 * k.val)
        rw [show k0_off2 k 1 = 128 * k.val from e]; omega
    have h1 : (i 1).val / 128 = k.val := by omega
    have h2 : (⟨(i 1).val - 128 * k.val, by omega⟩ : Fin 128) = ⟨(i 1).val % 128, Nat.mod_lt _ (by decide)⟩ := Fin.ext (by simp only; omega)
    have hv : candC d x i = k0_pay11 (passVal d x (k.val + 1)) (ix2 (n0 := 1024) (n1 := 128) (i 0) ⟨(i 1).val - 128 * k.val, by omega⟩) := by
      unfold candC laneOf k0_pay11
      rw [h1, h2, shapeCast_self]
    rw [hv]
    conv_lhs => rw [hi']
    exact View.write_emb_of_mem (v := (candM.access (Rect.unit (s := S1024x512) (k0_off2 k) S1024x128.size (k0_off2_inb k)) : View sig .tc _ _ _)) f _ (Finset.mem_univ _)

/-- One pass. -/
theorem t1_trip (c : Dev nD) (x : Buf (Elt F) ((c : Thread nD τ).loc cc0_stg0_0)) (v6 : BitVec 32) (k : Fin k0_t1_loop.trips) (acc : FVec F S1024x128 .f32) :
    iprop((((c : Thread nD τ).loc cc0_stg0_0) ↦{fullShare} x) ∗ ⌜acc = passVal c x k.val⌝
        ∗ (∃ f : Buf (Elt F) ((c : Thread nD τ).loc cc0_scratch0), ⌜∀ i : S1024x512.Idx, (i 1).val < 128 * k.val → f i = candC c x i⌝ ∗ (((c : Thread nD τ).loc cc0_scratch0) ↦{fullShare} f)))
      ⊢ (wp frame (wpE (defs₀ (F := F)) 𝒱₀ (c : Thread nD τ) none) Set.univ
          (k0_t1_body xM (Memref.isWhole_whole _) oM (Memref.isWhole_whole _) candM (Memref.isWhole_whole _) ltM (Memref.isWhole_whole _)
            yM (Memref.isWhole_whole _) zM (Memref.isWhole_whole _) dM (Memref.isWhole_whole _) s5 s6 c v6 k acc)
          (fun acc' => iprop((((c : Thread nD τ).loc cc0_stg0_0) ↦{fullShare} x) ∗ ⌜acc' = passVal c x (k.val + 1)⌝
        ∗ (∃ f : Buf (Elt F) ((c : Thread nD τ).loc cc0_scratch0), ⌜∀ i : S1024x512.Idx, (i 1).val < 128 * (k.val + 1) → f i = candC c x i⌝ ∗ (((c : Thread nD τ).loc cc0_scratch0) ↦{fullShare} f)))) : sProp 𝕄) := by
  unfold k0_t1_body
  iintro ⟨Hx, %hacc, ⟨%f, %hf, Hc⟩⟩
  subst hacc
  iapply (Scf.wp_for_bind frame (wpE (defs₀ (F := F)) 𝒱₀ (c : Thread nD τ) none) Set.univ k0_t2_loop.lb k0_t2_loop.ub k0_t2_loop.st k0_t2_ok (k0_pay9 (F := F)) _
    (fun n acc => iprop((((c : Thread nD τ).loc cc0_stg0_0) ↦{fullShare} x) ∗ ⌜acc = laneAt c x (passVal c x k.val) n⌝))
    (fun k' acc => t2_trip s5 s6 c x v6 (passVal c x k.val) k' acc)) $$ [Hx]
  · isplitl [Hx]; · iexact Hx
    ipureintro; rfl
  iintro %acc ⟨Hx, %hacc⟩
  subst hacc
  simp only [Prog.lift, Prog.bind_op, Prog.bind_ret, Prog.pure_eq_ret]
  iapply (wp_load 𝒱₀ (c : Thread nD τ) none Set.univ (m := candM) (Finset.subset_univ _)) $$ Hc; iintro Hc
  iapply (wp_store 𝒱₀ (c : Thread nD τ) none Set.univ (m := candM)
    (r := Rect.unit (s := S1024x512) (k0_off2 k) S1024x128.size (k0_off2_inb k)) (Mk := Finset.univ) (Finset.subset_univ _)) $$ Hc; iintro Hc
  rw [wp_ret]; imodintro
  isplitl [Hx]; · iexact Hx
  isplitr; · ipureintro; rfl
  iexists _
  isplitr; rotate_left
  · iexact Hc
  ipureintro
  exact cand_write c x k f hf

/-- The four passes fill the candidates. -/
theorem t1_run (c : Dev nD) (x : Buf (Elt F) ((c : Thread nD τ).loc cc0_stg0_0)) (v6 : BitVec 32)
    {β : Type} {kk : FVec F S1024x128 .f32 → Prog (TpuEff nD τ sig (Elt F) Λ₀ .tc) β} {Q : β → sProp 𝕄} :
    iprop((((c : Thread nD τ).loc cc0_stg0_0) ↦{fullShare} x) ∗ (∃ f : Buf (Elt F) ((c : Thread nD τ).loc cc0_scratch0), (((c : Thread nD τ).loc cc0_scratch0) ↦{fullShare} f)))
      ⊢ iprop((∀ v, ((((c : Thread nD τ).loc cc0_stg0_0) ↦{fullShare} x) ∗ (((c : Thread nD τ).loc cc0_scratch0) ↦{fullShare} (candC c x)))
            -∗ wp frame (wpE (defs₀ (F := F)) 𝒱₀ (c : Thread nD τ) none) Set.univ (kk v) Q)
          -∗ wp frame (wpE (defs₀ (F := F)) 𝒱₀ (c : Thread nD τ) none) Set.univ
          (Scf.Loop.for k0_t1_loop k0_t1_ok (k0_pay8 (F := F)) (k0_t1_body xM (Memref.isWhole_whole _) oM (Memref.isWhole_whole _) candM (Memref.isWhole_whole _) ltM (Memref.isWhole_whole _)
            yM (Memref.isWhole_whole _) zM (Memref.isWhole_whole _) dM (Memref.isWhole_whole _) s5 s6 c v6) >>= kk) Q) := by
  iintro ⟨Hx, ⟨%f, Hc⟩⟩ Hk
  iapply (Scf.wp_for_bind frame (wpE (defs₀ (F := F)) 𝒱₀ (c : Thread nD τ) none) Set.univ k0_t1_loop.lb k0_t1_loop.ub k0_t1_loop.st k0_t1_ok (k0_pay8 (F := F)) _
    (fun n acc => iprop((((c : Thread nD τ).loc cc0_stg0_0) ↦{fullShare} x) ∗ ⌜acc = passVal c x n⌝
        ∗ (∃ f : Buf (Elt F) ((c : Thread nD τ).loc cc0_scratch0), ⌜∀ i : S1024x512.Idx, (i 1).val < 128 * n → f i = candC c x i⌝ ∗ (((c : Thread nD τ).loc cc0_scratch0) ↦{fullShare} f))))
    (fun k acc => t1_trip s5 s6 c x v6 k acc)) $$ [Hx Hc]
  · isplitl [Hx]; · iexact Hx
    isplitr; · ipureintro; rfl
    iexists f
    isplitr; · ipureintro; intro i hi; omega
    iexact Hc
  iintro %acc ⟨Hx, -, ⟨%g, %hg, Hc⟩⟩
  have hg' : g = candC c x := funext fun i => hg i (by
    have h1 : (i 1).val < 512 := (i 1).isLt
    have h2 : Scf.trips k0_t1_loop.lb k0_t1_loop.ub k0_t1_loop.st = 4 := trips1
    omega)
  subst hg'
  iapply Hk
  isplitl [Hx]; · iexact Hx
  iexact Hc

/-! ## The two extraction loops -/

theorem t3_run (c : Dev nD) (v : Vec F S1024x512 .f32)
    {β : Type} {kk : FVec F S1024x1 .f32 × FVec F S1024x32 .f32 → Prog (TpuEff nD τ sig (Elt F) Λ₀ .tc) β} {Q : β → sProp 𝕄} :
    iprop(emp) ⊢ iprop(wp frame (wpE (defs₀ (F := F)) 𝒱₀ (c : Thread nD τ) none) Set.univ (kk (locAt v k0_t3_loop.trips)) Q
          -∗ wp frame (wpE (defs₀ (F := F)) 𝒱₀ (c : Thread nD τ) none) Set.univ
          (Scf.Loop.for k0_t3_loop k0_t3_ok (k0_pay12 (F := F), k0_pay13 (F := F)) (k0_t3_body xM (Memref.isWhole_whole _) oM (Memref.isWhole_whole _) candM (Memref.isWhole_whole _) ltM (Memref.isWhole_whole _)
            yM (Memref.isWhole_whole _) zM (Memref.isWhole_whole _) dM (Memref.isWhole_whole _) s5 s6 v) >>= kk) Q) := by
  iintro - Hk
  iapply (Scf.wp_for_bind frame (wpE (defs₀ (F := F)) 𝒱₀ (c : Thread nD τ) none) Set.univ k0_t3_loop.lb k0_t3_loop.ub k0_t3_loop.st k0_t3_ok (k0_pay12 (F := F), k0_pay13 (F := F)) _
    (fun n acc => iprop(⌜acc = locAt v n⌝))
    (fun k acc => by
      iintro %h
      subst h
      unfold k0_t3_body
      simp only [Prog.pure_eq_ret]
      rw [wp_ret]; imodintro
      ipureintro
      exact (locAt_succ v k).symm)) $$ []
  · ipureintro; rfl
  iintro %acc %h
  subst h
  iexact Hk

theorem t4_run (c : Dev nD) (a b e g : Vec F S1024x32 .f32)
    {β : Type} {kk : FVec F S1024x1 .f32 × FVec F S1024x32 .f32 → Prog (TpuEff nD τ sig (Elt F) Λ₀ .tc) β} {Q : β → sProp 𝕄} :
    iprop(emp) ⊢ iprop(wp frame (wpE (defs₀ (F := F)) 𝒱₀ (c : Thread nD τ) none) Set.univ (kk (finAt a b e g k0_t4_loop.trips)) Q
          -∗ wp frame (wpE (defs₀ (F := F)) 𝒱₀ (c : Thread nD τ) none) Set.univ
          (Scf.Loop.for k0_t4_loop k0_t4_ok (k0_pay1 (F := F), k0_pay2 (F := F)) (k0_t4_body xM (Memref.isWhole_whole _) oM (Memref.isWhole_whole _) candM (Memref.isWhole_whole _) ltM (Memref.isWhole_whole _)
            yM (Memref.isWhole_whole _) zM (Memref.isWhole_whole _) dM (Memref.isWhole_whole _) s5 s6 (iota .tc S1024x32 32 [1] iota_S1024x32_d1_w32) a b e g) >>= kk) Q) := by
  iintro - Hk
  iapply (Scf.wp_for_bind frame (wpE (defs₀ (F := F)) 𝒱₀ (c : Thread nD τ) none) Set.univ k0_t4_loop.lb k0_t4_loop.ub k0_t4_loop.st k0_t4_ok (k0_pay1 (F := F), k0_pay2 (F := F)) _
    (fun n acc => iprop(⌜acc = finAt a b e g n⌝))
    (fun k acc => by
      iintro %h
      subst h
      unfold k0_t4_body
      simp only [Prog.pure_eq_ret]
      rw [wp_ret]; imodintro
      ipureintro
      exact (finAt_succ a b e g k).symm)) $$ []
  · ipureintro; rfl
  iintro %acc %h
  subst h
  iexact Hk

end Cert.KernelIdealProof

end
-- ==== Proof.KernelIdealProtocol.lean ====
/-
# 01_k, `KernelIdeal`: the exchange as a schedule of rounds

The four devices sit on a 2 × 2 mesh. Device `c` has three peers, `peer 0 c` (the other column), `peer 1 c` (the other
row) and `peer 2 c` (both); each is its own inverse. A device has one barrier cell, and a send and a receive cell per
peer. Round 0 of the barrier cell has one duty `j` per peer, paid by that peer's signal, and the payload of duty `j` is
the buffer of `peer j c` in which the transfer `j` of `c` lands, with the mark that the peer stands at round 0 of the
matching receive cell. A send cell gives back the share of the list that the transfer reads; a receive cell gives the
landing buffer holding the list of the peer.
-/
module

public import proofs.«01_k».proof.Proof.KernelIdealLocal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

set_option backward.proofsInPublic true in
def peer (j : Fin 3) (c : Dev nD) : Dev nD := ⟨(c.val ^^^ (j.val + 1)) % 4, Nat.mod_lt _ (by decide)⟩

theorem peer_peer (j : Fin 3) (c : Dev nD) : peer j (peer j c) = c := by revert j c; decide

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 0 c := Fin.ext ((k0_dev4_eq c).trans (by revert c; decide))
theorem dev5_eq (c : Dev nD) : (⟨k0_dev5 c, k0_dev5_lt c⟩ : Dev nD) = peer 1 c := Fin.ext ((k0_dev5_eq c).trans (by revert c; decide))
theorem dev6_eq (c : Dev nD) : (⟨k0_dev6 c, k0_dev6_lt c⟩ : Dev nD) = peer 2 c := Fin.ext ((k0_dev6_eq c).trans (by revert c; decide))

def peerEquiv (j : Fin 3) : Dev nD ≃ Dev nD := ⟨peer j, peer j, peer_peer j, peer_peer j⟩

/-! ## The buffers and cells -/

/-- The landing buffer of transfer `j`. -/
abbrev bR : Fin 3 → Ref sig .tc := fun | 0 => cc0_scratch2 | 1 => cc0_scratch3 | 2 => cc0_scratch4
abbrev bM : Fin 3 → Memref sig .tc .vmem S1024x32 .f32 := fun | 0 => yM | 1 => zM | 2 => dM

abbrev barS : Sem sig := (SemArray.scalar (sig.barrier 0 rfl) : Sems sig S_).sem
abbrev sendS : Fin 3 → DmaSem sig := fun
  | 0 => ((cc0_scratch5.slice (Rect.unit (s := S3) ![0] S1.size inb_S3_S1_0) : DmaSems sig S1).squeeze S_ squeezes_S1_S_ : DmaSems sig S_).sem
  | 1 => ((cc0_scratch5.slice (Rect.unit (s := S3) ![1] S1.size inb_S3_S1_1) : DmaSems sig S1).squeeze S_ squeezes_S1_S_ : DmaSems sig S_).sem
  | 2 => ((cc0_scratch5.slice (Rect.unit (s := S3) ![2] S1.size inb_S3_S1_2) : DmaSems sig S1).squeeze S_ squeezes_S1_S_ : DmaSems sig S_).sem
abbrev recvS : Fin 3 → DmaSem sig := fun
  | 0 => ((cc0_scratch6.slice (Rect.unit (s := S3) ![0] S1.size inb_S3_S1_0) : DmaSems sig S1).squeeze S_ squeezes_S1_S_ : DmaSems sig S_).sem
  | 1 => ((cc0_scratch6.slice (Rect.unit (s := S3) ![1] S1.size inb_S3_S1_1) : DmaSems sig S1).squeeze S_ squeezes_S1_S_ : DmaSems sig S_).sem
  | 2 => ((cc0_scratch6.slice (Rect.unit (s := S3) ![2] S1.size inb_S3_S1_2) : DmaSems sig S1).squeeze S_ squeezes_S1_S_ : DmaSems sig S_).sem

abbrev barCell (c : Dev nD) : GSem nD τ sig := ((c : Thread nD τ), .reg barS)
abbrev sendCell (j : Fin 3) (c : Dev nD) : GSem nD τ sig := ((c : Thread nD τ), .dma (sendS j))
abbrev recvCell (j : Fin 3) (c : Dev nD) : GSem nD τ sig := ((c : Thread nD τ), .dma (recvS j))

/-- The launch's own (scoped) semaphores: the three send, the three receive; -/
abbrev osem : Fin 6 → SemLoc sig := fun
  | 0 => .dma (sendS 0) | 1 => .dma (sendS 1) | 2 => .dma (sendS 2) | 3 => .dma (recvS 0) | 4 => .dma (recvS 1) | 5 => .dma (recvS 2)
/-- all seven of the exchange's: the barrier, the three send, the three receive. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

abbrev sIx : Fin 3 → Fin 7 := fun | 0 => 1 | 1 => 2 | 2 => 3
abbrev rIx : Fin 3 → Fin 7 := fun | 0 => 4 | 1 => 5 | 2 => 6

theorem csem_sIx (j : Fin 3) : csem (sIx j) = .dma (sendS j) := by fin_cases j <;> rfl
theorem csem_rIx (j : Fin 3) : csem (rIx j) = .dma (recvS j) := by fin_cases j <;> rfl

/-- Which of the seven a semaphore is. -/
def whichSem (s : SemLoc sig) : Option (Fin 7) := (List.finRange 7).find? (fun k => decide (csem k = s))
theorem whichSem_csem (k : Fin 7) : whichSem (csem k) = some k := by revert k; decide
theorem which_bar : whichSem (.reg barS) = some 0 := whichSem_csem 0
theorem which_send (j : Fin 3) : whichSem (.dma (sendS j)) = some (sIx j) := by rw [← csem_sIx]; exact whichSem_csem _
theorem which_recv (j : Fin 3) : whichSem (.dma (recvS j)) = some (rIx j) := by rw [← csem_rIx]; exact whichSem_csem _

abbrev N : ℕ := (ltM : Memref sig .tc .vmem S1024x32 .f32).view.dmaCredit
theorem N_pos : 0 < N := View.dmaCredit_pos _ (by decide)
theorem credit_b (j : Fin 3) : (bM j).view.dmaCredit = N := by fin_cases j <;> rfl

/-! ## Contents -/

/-- Device `c`'s block of `x`, as the launch stages it. -/
def xstg (c : Dev nD) : Vec F S1024x8192 .f32 :=
  (win0_0.blk (0 : Fin 1)).view.read (Elt F) ((s₀ m ρ).mem ((c : Thread nD τ).loc main_arg0))

/-- Device `c`'s list. -/
def lst (c : Dev nD) : Vec F S1024x32 .f32 := ltC c (xstg m ρ c)

/-- Device `c`'s result: the extraction of its own list and its three peers'. -/
def outAt (c : Dev nD) : Vec F S1024x32 .f32 := outC (lst m ρ c) (lst m ρ (peer 0 c)) (lst m ρ (peer 1 c)) (lst m ρ (peer 2 c))

/-- The share of the list that transfer `j` reads. -/
abbrev sh : Fin 3 → PosShare TreeShare := fun | 0 => fullShare.left | 1 => fullShare.right.left | 2 => fullShare.right.right

def ltPts (q : PosShare TreeShare) (c : Dev nD) (X : Vec F S1024x32 .f32) : sProp 𝕄 :=
  ltM.view.loc (c : Thread nD τ) ↦[ltM.view.set]{q} X

def bufAny (j : Fin 3) (c : Dev nD) : sProp 𝕄 := iprop(∃ f, (bM j).view.loc (c : Thread nD τ) ↦[(bM j).view.set]{fullShare} f)

def bufOwn (j : Fin 3) (c : Dev nD) (X : Vec F S1024x32 .f32) : sProp 𝕄 := owns (c : Thread nD τ) (bM j) fullShare X

instance ltPts_storable (q) (c : Dev nD) (X) : BI.Storable (upEmb : UEmb _ 𝕄) (ltPts (F := F) q c X) := by unfold ltPts; infer_instance
instance bufAny_storable (j) (c : Dev nD) : BI.Storable (upEmb : UEmb _ 𝕄) (bufAny (F := F) j c) := by unfold bufAny; infer_instance
instance bufOwn_storable (j) (c : Dev nD) (X) : BI.Storable (upEmb : UEmb _ 𝕄) (bufOwn (F := F) j c X) := by unfold bufOwn; infer_instance

theorem lt_set : ltM.view.set = Finset.univ := View.set_whole _
theorem ltPts_eq (q : PosShare TreeShare) (c : Dev nD) (X : Vec F S1024x32 .f32) :
    ltPts q c X = (((c : Thread nD τ).loc cc0_scratch1) ↦{q} X : sProp 𝕄) := by unfold ltPts; rw [lt_set]

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole scratch buffer is a landing buffer at some contents. -/
theorem bufAny0 (c : Dev nD) : bufAny 0 c = (iprop(∃ f : Buf (Elt F) ((c : Thread nD τ).loc cc0_scratch2), ((c : Thread nD τ).loc cc0_scratch2) ↦{fullShare} f) : sProp 𝕄) := by
  unfold bufAny; simp only [bM, Memref.view_whole, View.set_whole]
theorem bufAny1 (c : Dev nD) : bufAny 1 c = (iprop(∃ f : Buf (Elt F) ((c : Thread nD τ).loc cc0_scratch3), ((c : Thread nD τ).loc cc0_scratch3) ↦{fullShare} f) : sProp 𝕄) := by
  unfold bufAny; simp only [bM, Memref.view_whole, View.set_whole]
theorem bufAny2 (c : Dev nD) : bufAny 2 c = (iprop(∃ f : Buf (Elt F) ((c : Thread nD τ).loc cc0_scratch4), ((c : Thread nD τ).loc cc0_scratch4) ↦{fullShare} f) : sProp 𝕄) := by
  unfold bufAny; simp only [bM, Memref.view_whole, View.set_whole]

theorem bufOwn0 (c : Dev nD) (X : Vec F S1024x32 .f32) : bufOwn 0 c X
    = (iprop(∃ f : Buf (Elt F) ((c : Thread nD τ).loc cc0_scratch2), ⌜f = X⌝ ∗ (((c : Thread nD τ).loc cc0_scratch2) ↦{fullShare} f)) : sProp 𝕄) := by
  unfold bufOwn; exact owns_whole_eq c cc0_scratch2 X
theorem bufOwn1 (c : Dev nD) (X : Vec F S1024x32 .f32) : bufOwn 1 c X
    = (iprop(∃ f : Buf (Elt F) ((c : Thread nD τ).loc cc0_scratch3), ⌜f = X⌝ ∗ (((c : Thread nD τ).loc cc0_scratch3) ↦{fullShare} f)) : sProp 𝕄) := by
  unfold bufOwn; exact owns_whole_eq c cc0_scratch3 X
theorem bufOwn2 (c : Dev nD) (X : Vec F S1024x32 .f32) : bufOwn 2 c X
    = (iprop(∃ f : Buf (Elt F) ((c : Thread nD τ).loc cc0_scratch4), ⌜f = X⌝ ∗ (((c : Thread nD τ).loc cc0_scratch4) ↦{fullShare} f)) : sProp 𝕄) := by
  unfold bufOwn; exact owns_whole_eq c cc0_scratch4 X

/-! ## The schedule -/

/-- What the signal of `peer j c` hands `c`. -/
def barPay (j : Fin 3) (c : Dev nD) : sProp 𝕄 := iprop(bufAny j (peer j c) ∗ reached ER (recvCell j (peer j c)) 0)
def sendPay (j : Fin 3) (c : Dev nD) : sProp 𝕄 := ltPts (sh j) c (lst m ρ c)
def recvPay (j : Fin 3) (c : Dev nD) : sProp 𝕄 := bufOwn j c (lst m ρ (peer j c))

/-- The payload of the seven cells. -/
def payOf (k : Fin 7) (d : Fin 3) (c : Dev nD) : sProp 𝕄 := match k with
  | 0 => barPay d c
  | 1 => sendPay m ρ 0 c | 2 => sendPay m ρ 1 c | 3 => sendPay m ρ 2 c
  | 4 => recvPay m ρ 0 c | 5 => recvPay m ρ 1 c | 6 => recvPay m ρ 2 c

instance payOf_storable (k : Fin 7) (d : Fin 3) (c : Dev nD) : BI.Storable (upEmb : UEmb _ 𝕄) (payOf (F := F) m ρ k d c) := by
  unfold payOf barPay sendPay recvPay; split <;> infer_instance

def payAt (o : Option (Fin 7)) (d : Fin 3) (c : Dev nD) : sProp 𝕄 := match o with
  | some k => payOf m ρ k d c
  | none => iprop(emp)

instance payAt_storable (o : Option (Fin 7)) (d : Fin 3) (c : Dev nD) : BI.Storable (upEmb : UEmb _ 𝕄) (payAt (F := F) m ρ o d c) := by
  unfold payAt; split <;> infer_instance

def amtOf (o : Option (Fin 7)) : ℕ := if o = some 0 then 1 else N
def dutOf (o : Option (Fin 7)) : Finset (Fin 3) := match o with
  | some k => if k = 0 then Finset.univ else {0}
  | none => ∅

/-- One round, round 0: a barrier cell has a duty of one unit per peer, a send or receive cell one duty of a list's credit. -/
def exRd : Rounds.Schedule (GSem nD τ sig) (Fin 3) 𝕄 where
  duties g r := if r = 0 ∧ g.1.2 = .tc then dutOf (whichSem g.2) else ∅
  unitless _ := False
  amount g _ _ := amtOf (whichSem g.2)
  payload g _ d := payAt m ρ (whichSem g.2) d g.1.1
  amount_pos g _ _ _ := by
    unfold amtOf; split
    · exact Nat.one_pos
    · exact N_pos

instance exRd_payload_storable (g : GSem nD τ sig) (r : ℕ) (d : Fin 3) :
    BI.Storable (upEmb : UEmb _ 𝕄) ((exRd (F := F) m ρ).payload g r d) := by
  show BI.Storable upEmb (payAt m ρ (whichSem g.2) d g.1.1)
  infer_instance

section Sched
variable (c : Dev nD)

theorem duties_bar : (exRd (F := F) m ρ).duties (barCell c) 0 = Finset.univ := by
  dsimp only [exRd]; rw [which_bar, if_pos ⟨rfl, rfl⟩]; rfl
theorem duties_send (j : Fin 3) : (exRd (F := F) m ρ).duties (sendCell j c) 0 = {0} := by
  dsimp only [exRd]; rw [which_send, if_pos ⟨rfl, rfl⟩]; fin_cases j <;> rfl
theorem duties_recv (j : Fin 3) : (exRd (F := F) m ρ).duties (recvCell j c) 0 = {0} := by
  dsimp only [exRd]; rw [which_recv, if_pos ⟨rfl, rfl⟩]; fin_cases j <;> rfl
theorem duties_later (g : GSem nD τ sig) : ∀ r, 1 ≤ r → (exRd (F := F) m ρ).duties g r = ∅ :=
  fun r hr => by dsimp only [exRd]; rw [if_neg fun h => by omega]

theorem amount_bar (d : Fin 3) : (exRd (F := F) m ρ).amount (barCell c) 0 d = 1 := by
  dsimp only [exRd]; rw [which_bar]; exact if_pos rfl
theorem amount_send (j d : Fin 3) : (exRd (F := F) m ρ).amount (sendCell j c) 0 d = N := by
  dsimp only [exRd]; rw [which_send]; exact if_neg (by revert j; decide)
theorem amount_recv (j d : Fin 3) : (exRd (F := F) m ρ).amount (recvCell j c) 0 d = N := by
  dsimp only [exRd]; rw [which_recv]; exact if_neg (by revert j; decide)

theorem expect_bar : (exRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (j : Fin 3) : (exRd (F := F) m ρ).expect (sendCell j c) 0 = N := by
  unfold Schedule.expect Schedule.amountOf; rw [duties_send, Finset.sum_singleton, amount_send]
theorem expect_recv (j : Fin 3) : (exRd (F := F) m ρ).expect (recvCell j c) 0 = N := by
  unfold Schedule.expect Schedule.amountOf; rw [duties_recv, Finset.sum_singleton, amount_recv]

theorem payload_bar (d : Fin 3) : (exRd (F := F) m ρ).payload (barCell c) 0 d = barPay d c := by
  dsimp only [exRd]; rw [which_bar]; rfl
theorem payload_send (j d : Fin 3) : (exRd (F := F) m ρ).payload (sendCell j c) 0 d = sendPay m ρ j c := by
  dsimp only [exRd]; rw [which_send]; fin_cases j <;> rfl
theorem payload_recv (j d : Fin 3) : (exRd (F := F) m ρ).payload (recvCell j c) 0 d = recvPay m ρ j c := by
  dsimp only [exRd]; rw [which_recv]; fin_cases j <;> rfl

/-- The whole of a barrier cell's round: the three peers' payloads. -/
theorem rest_bar : bigSep ((exRd (F := F) m ρ).duties (barCell c) 0 \ ∅) (fun d => (exRd (F := F) m ρ).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]; rfl
theorem rest_send (j : Fin 3) : bigSep ((exRd (F := F) m ρ).duties (sendCell j c) 0 \ ∅) (fun d => (exRd (F := F) m ρ).payload (sendCell j c) 0 d) = sendPay m ρ j c := by
  rw [Finset.sdiff_empty, duties_send, bigSep_singleton, payload_send]
theorem rest_recv (j : Fin 3) : bigSep ((exRd (F := F) m ρ).duties (recvCell j c) 0 \ ∅) (fun d => (exRd (F := F) m ρ).payload (recvCell j c) 0 d) = recvPay m ρ j c := by
  rw [Finset.sdiff_empty, duties_recv, bigSep_singleton, payload_recv]

end Sched

/-! ## What a device owes at launch; the levels -/

/-- The list's credit to the receive cell of `peer j c`, and a unit to its barrier cell. -/
def oweR (j : Fin 3) (c : Dev nD) : CellTallies nD τ sig Unit := tallyAt (recvCell j (peer j c)) () N
def oweB (j : Fin 3) (c : Dev nD) : CellTallies nD τ sig Unit := tallyAt (barCell (peer j c)) () 1

/-- All three transfers still to come. -/
def Ox (c : Dev nD) : CellTallies nD τ sig Unit := (oweR 2 c + oweR 1 c) + oweR 0 c
/-- At launch, innermost last: the three transfers, and the three signals. -/
def O₀ (c : Dev nD) : CellTallies nD τ sig Unit := ((Ox c + oweB 2 c) + oweB 1 c) + oweB 0 c

def L (g : GSem nD τ sig) : Finset Unit := if g.1.2 = .tc then {()} else ∅
def lvOf (o : Option (Fin 7)) : ℕ := match o with
  | some k => if k = 0 then 1 else if 4 ≤ k.val then 2 else 0
  | none => 0
/-- barrier cells at 1, receive cells at 2, everything else at 0. -/
def lv (g : GSem nD τ sig) (_ : Unit) : ℕ := lvOf (whichSem g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [which_bar]; rfl
theorem lv_recv (j : Fin 3) (c : Dev nD) : lv (recvCell j c) () = 2 := by unfold lv; rw [which_recv]; fin_cases j <;> rfl

theorem add_pos_cases {A B : CellTallies nD τ sig Unit} {g : GSem nD τ sig} {u : Unit} (h : 0 < (A + B) g u) : 0 < A g u ∨ 0 < B g u := by
  rw [Pi.add_apply, Finsupp.add_apply] at h; omega
theorem oweR_pos {j : Fin 3} {c : Dev nD} {g : GSem nD τ sig} {u : Unit} (h : 0 < oweR j c g u) : g = recvCell j (peer j c) := by
  unfold oweR at h; rw [tallyAt_apply] at h
  by_contra hn; rw [if_neg fun h' => hn h'.1] at h; exact Nat.lt_irrefl 0 h
theorem oweB_pos {j : Fin 3} {c : Dev nD} {g : GSem nD τ sig} {u : Unit} (h : 0 < oweB j c g u) : g = barCell (peer j c) := by
  unfold oweB at h; rw [tallyAt_apply] at h
  by_contra hn; rw [if_neg fun h' => hn h'.1] at h; exact Nat.lt_irrefl 0 h
theorem Ox_pos {c : Dev nD} {g : GSem nD τ sig} {u : Unit} (h : 0 < Ox c g u) : ∃ j, g = recvCell j (peer j c) := by
  rcases add_pos_cases h with h | h
  · rcases add_pos_cases h with h | h
    · exact ⟨_, oweR_pos h⟩
    · exact ⟨_, oweR_pos h⟩
  · exact ⟨_, oweR_pos h⟩
theorem O₀_pos {c : Dev nD} {g : GSem nD τ sig} {u : Unit} (h : 0 < O₀ c g u) : ∃ j, g = recvCell j (peer j c) ∨ g = barCell (peer j c) := by
  rcases add_pos_cases h with h | h
  · rcases add_pos_cases h with h | h
    · rcases add_pos_cases h with h | h
      · obtain ⟨j, hj⟩ := Ox_pos h; exact ⟨j, .inl hj⟩
      · exact ⟨_, .inr (oweB_pos h)⟩
    · exact ⟨_, .inr (oweB_pos h)⟩
  · exact ⟨_, .inr (oweB_pos h)⟩

/-- A staging semaphore may be waited for while everything is owed. -/
theorem mayWait_stage (c : Dev nD) (q : DmaSem sig) (hq : lvOf (whichSem (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨j, rfl | rfl⟩ := O₀_pos hg <;> exact Finset.mem_singleton_self _)
      (fun p hp => by rw [Finset.mem_singleton.mp hp]; exact Nat.le_of_eq hq)
      (fun g u hg => by
        obtain ⟨j, rfl | rfl⟩ := O₀_pos hg
        · show 0 < lv (recvCell j (peer j c)) (); rw [lv_recv]; decide
        · show 0 < lv (barCell (peer j c)) (); rw [lv_bar]; decide)
  · rw [MayWait_zero]; iintro -; iempintro

/-- At its barrier wait a device owes only its transfers' receive cells, which lie above. -/
theorem mayWait_bar (c : Dev nD) : (levAts L lv : sProp 𝕄) ⊢ MayWait (c : Thread nD τ) (.reg barS) () (Ox c) :=
  MayOwe.of_cut (L := L) (lev := lv) 1 (fun p hp => by rw [Finset.mem_singleton.mp hp, L_tc]; exact Finset.mem_singleton_self _)
    (fun g u hg => by obtain ⟨j, rfl⟩ := Ox_pos hg; exact Finset.mem_singleton_self _)
    (fun p hp => by rw [Finset.mem_singleton.mp hp]; exact Nat.le_of_eq (lv_bar c))
    (fun g u hg => by obtain ⟨j, rfl⟩ := Ox_pos hg; show 1 < lv (recvCell j (peer j c)) (); rw [lv_recv]; decide)

end Cert.KernelIdealProof

end
-- ==== Proof.KernelIdealBody.lean ====
/-
# 01_k, `KernelIdeal`: the body, run once at a symbolic device

The body computes its list, signals its three peers, waits for their three signals, sends its list to each, waits for
the three sends and the three arrivals, and extracts the result from the four lists.
-/
module

public import proofs.«01_k».proof.Proof.KernelIdealProtocol
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the launch leaves behind for good: every cell's invariant, at the names `K`, and that round 0 is reached. -/
def records (K : Dev nD × Fin 7 → ℕ) : sProp 𝕄 :=
  iprop((bigSep Finset.univ fun ck => cellInv ER (exRd m ρ) (K ck) (kcell ck)) ∗ (bigSep Finset.univ fun ck => reached ER (kcell ck) 0))

instance records_persistent (K : Dev nD × Fin 7 → ℕ) : BI.Persistent (records m ρ K) := by unfold records; infer_instance

theorem inv_of (K : Dev nD × Fin 7 → ℕ) (ck : Dev nD × Fin 7) : records m ρ K ⊢ cellInv ER (exRd m ρ) (K ck) (kcell ck) := by
  unfold records; iintro ⟨H, -⟩; iapply (show bigSep Finset.univ (fun ck => cellInv ER (exRd m ρ) (K ck) (kcell ck)) ⊢ cellInv ER (exRd m ρ) (K ck) (kcell ck) from bigSep_elim (Finset.mem_univ ck)); iexact H
theorem reached_of (K : Dev nD × Fin 7 → ℕ) (ck : Dev nD × Fin 7) : records m ρ K ⊢ reached ER (kcell ck) 0 := by
  unfold records; iintro ⟨-, H⟩; iapply (show (bigSep Finset.univ (fun ck : Dev nD × Fin 7 => reached ER (kcell ck) 0) : sProp 𝕄) ⊢ reached ER (kcell ck) 0 from bigSep_elim (Finset.mem_univ ck)); iexact H

theorem kcell_s (j : Fin 3) (c : Dev nD) : kcell (c, sIx j) = sendCell j c := by fin_cases j <;> rfl
theorem kcell_r (j : Fin 3) (c : Dev nD) : kcell (c, rIx j) = recvCell j c := by fin_cases j <;> rfl

theorem inv_bar (K : Dev nD × Fin 7 → ℕ) (c : Dev nD) : records m ρ K ⊢ cellInv ER (exRd m ρ) (K (c, 0)) (barCell c) := inv_of m ρ K (c, 0)
theorem inv_send (K : Dev nD × Fin 7 → ℕ) (j : Fin 3) (c : Dev nD) : records m ρ K ⊢ cellInv ER (exRd m ρ) (K (c, sIx j)) (sendCell j c) := by
  rw [← kcell_s]; exact inv_of m ρ K (c, sIx j)
theorem inv_recv (K : Dev nD × Fin 7 → ℕ) (j : Fin 3) (c : Dev nD) : records m ρ K ⊢ cellInv ER (exRd m ρ) (K (c, rIx j)) (recvCell j c) := by
  rw [← kcell_r]; exact inv_of m ρ K (c, rIx j)
theorem reached_bar (K : Dev nD × Fin 7 → ℕ) (c : Dev nD) : records m ρ K ⊢ reached ER (barCell c) 0 := reached_of m ρ K (c, 0)
theorem reached_send (K : Dev nD × Fin 7 → ℕ) (j : Fin 3) (c : Dev nD) : records m ρ K ⊢ reached ER (sendCell j c) 0 := by
  rw [← kcell_s]; exact reached_of m ρ K (c, sIx j)
theorem reached_recv (K : Dev nD × Fin 7 → ℕ) (j : Fin 3) (c : Dev nD) : records m ρ K ⊢ reached ER (recvCell j c) 0 := by
  rw [← kcell_r]; exact reached_of m ρ K (c, rIx j)

/-- The three tokens a device pays with towards peer `j`: the peer's barrier duty `j`, its receive duty, its own send duty. -/
def tokJ (j : Fin 3) (c : Dev nD) : sProp 𝕄 :=
  iprop(dutyTok ER (barCell (peer j c)) 0 j ∗ dutyTok ER (recvCell j (peer j c)) 0 0 ∗ dutyTok ER (sendCell j c) 0 0)
/-- A device's positions at round 0 of its send and receive cells `j`. -/
def atJ (j : Fin 3) (c : Dev nD) : sProp 𝕄 := iprop(atPos ER (sendCell j c) 0 ∅ 0 ∗ atPos ER (recvCell j c) 0 ∅ 0)

/-- The ghost state a device starts from. -/
def ghost (K : Dev nD × Fin 7 → ℕ) (c : Dev nD) : sProp 𝕄 :=
  iprop(records m ρ K ∗ (atPos ER (barCell c) 0 ∅ 0 ∗ atJ 0 c ∗ atJ 1 c ∗ atJ 2 c) ∗ (tokJ 0 c ∗ tokJ 1 c ∗ tokJ 2 c))

/-- The credit of its barrier's three units and its three receive cells. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

def start (c : Dev nD) : sProp 𝕄 := iprop((∃ K, ghost m ρ K c) ∗ credits c ∗ levAts L lv)

/-- The five scratch buffers, at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bufAny 0 c ∗ bufAny 1 c ∗ bufAny 2 c)

def Φ₀ (c : Dev nD) : sProp 𝕄 := iprop(start m ρ c ∗ scratches c)
/-- After the point: the scratch buffers, and all seven cells closed at zero. -/
def Φ₁ (c : Dev nD) : sProp 𝕄 :=
  iprop(scratches c ∗ (semVal (sendCell 0 c) 0 ∗ semVal (sendCell 1 c) 0 ∗ semVal (sendCell 2 c) 0 ∗ semVal (recvCell 0 c) 0 ∗ semVal (recvCell 1 c) 0 ∗ semVal (recvCell 2 c) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-! ## Loads and stores of whole buffers -/

theorem hz : (![0, 0] : Fin 2 → Nat) = fun _ => 0 := funext fun a => by fin_cases a <;> rfl
abbrev rL : Rect S1024x32 := Rect.unit (s := S1024x32) ![0, 0] S1024x32.size inb_S1024x32_S1024x32_0_0
abbrev rC : Rect S1024x512 := Rect.unit (s := S1024x512) ![0, 0] S1024x512.size inb_S1024x512_S1024x512_0_0

theorem read_cand (f : Vec F S1024x512 .f32) : candM.view.readAt (Elt F) rC.toLoadRect f = f := Memref.readAt_unit_zero (Elt F) cc0_scratch0 hz _ f
theorem read_lt (f : Vec F S1024x32 .f32) : ltM.view.readAt (Elt F) rL.toLoadRect f = f := Memref.readAt_unit_zero (Elt F) cc0_scratch1 hz _ f
theorem read_y (f : Vec F S1024x32 .f32) : yM.view.readAt (Elt F) rL.toLoadRect f = f := Memref.readAt_unit_zero (Elt F) cc0_scratch2 hz _ f
theorem read_z (f : Vec F S1024x32 .f32) : zM.view.readAt (Elt F) rL.toLoadRect f = f := Memref.readAt_unit_zero (Elt F) cc0_scratch3 hz _ f
theorem read_d (f : Vec F S1024x32 .f32) : dM.view.readAt (Elt F) rL.toLoadRect f = f := Memref.readAt_unit_zero (Elt F) cc0_scratch4 hz _ f
theorem write_lt (f w : Vec F S1024x32 .f32) : (ltM.access rL : View sig .tc _ _ _).write (Elt F) f w Finset.univ = w :=
  Memref.write_access_unit_zero_univ (Elt F) cc0_scratch1 hz _ f w
theorem write_out (f w : Vec F S1024x32 .f32) : (oM.access rL : View sig .tc _ _ _).write (Elt F) f w Finset.univ = w :=
  Memref.write_access_unit_zero_univ (Elt F) cc0_stg1_0 hz _ f w

/-! ## One transfer, one wait -/

section Steps
variable (K : Dev nD × Fin 7 → ℕ)

/-- The transfer to peer `j`, addressed to `n = peer j c`. -/
theorem send_step (j : Fin 3) (c n : Dev nD) (hn : n = peer j c) {hsc : (bM j : Memref sig (Dev.tc n : Thread nD τ).2.kind .vmem S1024x32 .f32).view.ref.isScScratch = false}
    {hsrc : ltM.view.WordExact} {hdst : (bM j).view.WordExact}
    {hsem : DmaTarget.Typed .vmem (.dma (recvS j)) (.remote (Dev.tc n : Thread nD τ) (bM j : Memref sig .tc .vmem S1024x32 .f32) (.dma (sendS j)) hsc)}
    {α : Type} {Q : α → sProp 𝕄} {k : PUnit → Prog (TpuEff nD τ sig (Elt F) Λ₀ .tc) α} (O : CellTallies nD τ sig Unit) (W : Waits sig Unit) :
    iprop(records m ρ K ∗ ltPts (sh j) c (lst m ρ c) ∗ bufAny j (peer j c) ∗ owes (c : Thread nD τ) (O + oweR j c) W
        ∗ dutyTok ER (recvCell j (peer j c)) 0 0 ∗ dutyTok ER (sendCell j c) 0 0)
      ⊢ iprop(((cred (tallyAt (sendCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ltM (.remote (Dev.tc n : Thread nD τ) (bM j) (.dma (sendS j)) hsc) (.dma (recvS j)) hsrc hdst hsem) k) Q) := by
  subst hn
  unfold bufAny ltPts oweR
  iintro ⟨#HR, Hl, ⟨%f, Hb⟩, HO, Ht1, Ht2⟩ Hk
  iapply (Rounds.wp_send_pointsTo 𝒱₀ ER (exRd m ρ) (c : Thread nD τ) none (κ₁ := K (c, sIx j)) (κ₂ := K (peer j c, rIx j))
    (r₁ := 0) (r₂ := 0) (d₁ := 0) (d₂ := 0) (fs := lst m ρ c) (fd := f)
    (by rw [duties_send]; exact Finset.mem_singleton_self _) (by rw [duties_recv]; exact Finset.mem_singleton_self _)
    () () N (show (bM j).view.amount (.dma (recvS j)) = N from credit_b j) (amount_send m ρ c j 0) (amount_recv m ρ (peer j c) j 0) O rfl (W := W)
    (by rw [payload_send]; exact BI.Entails.refl _)
    (by
      rw [payload_recv]; unfold recvPay bufOwn owns
      iintro H; iexists ((bM j).view.write (Elt F) f (ltM.view.read (Elt F) (lst m ρ c)) Finset.univ); isplitr
      · ipureintro; rw [View.read_write_univ, peer_peer]; exact View.read_whole _ _
      · iexact H)) $$ [Hl Hb HO Ht1 Ht2]
  · isplitr; · iapply (inv_send m ρ K j c); iexact HR
    isplitr; · iapply (inv_recv m ρ K j (peer j c)); iexact HR
    isplitl [Hl]; · iexact Hl
    isplitl [Hb]; · iexact Hb
    isplitl [HO]; · iexact HO
    isplitl [Ht2]; · iexact Ht2
    isplitr; · iapply (reached_send m ρ K j c); iexact HR
    isplitl [Ht1]; · iexact Ht1
    iapply (reached_recv m ρ K j (peer j c)); iexact HR
  iexact Hk

/-- The wait for send `j`: the share of the list comes back, and the cell closes. -/
theorem wait_send_step (j : Fin 3) (c : Dev nD) {src : Memref sig .tc .vmem S1024x32 .f32} {hsrc : src.view.WordExact} {hdst : ltM.view.WordExact}
    {α : Type} {Q : α → sProp 𝕄} {k : PUnit → Prog (TpuEff nD τ sig (Elt F) Λ₀ .tc) α} (W : Waits sig Unit) :
    iprop(records m ρ K ∗ cred (tallyAt (sendCell j c) () N) ∗ owes (c : Thread nD τ) 0 W ∗ atPos ER (sendCell j c) 0 ∅ 0)
      ⊢ iprop(((owes (c : Thread nD τ) 0 (insert (SemLoc.dma (sendS j), ()) W) ∗ ltPts (sh j) c (lst m ρ c) ∗ atPos ER (sendCell j c) 1 ∅ 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src ltM hsrc hdst) k) Q) := by
  iintro ⟨#HR, Hc, HO, Hat⟩ Hk
  iapply (Rounds.wp_wait_rest_token 𝒱₀ ER (exRd m ρ) (c : Thread nD τ) none (κ := K (c, sIx j))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m ρ K j c); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hpay]; · iapply (Entails.of_eq ((rest_send m ρ c j).trans (by unfold sendPay; rfl))); iexact Hpay
  iexact Hat

/-- The wait for arrival `j`: the landing buffer holding the peer's list. -/
theorem wait_recv_step (j : Fin 3) (c : Dev nD) {src : Memref sig .tc .vmem S1024x32 .f32} {hsrc : src.view.WordExact} {hdst : (bM j).view.WordExact}
    {α : Type} {Q : α → sProp 𝕄} {k : PUnit → Prog (TpuEff nD τ sig (Elt F) Λ₀ .tc) α} (W : Waits sig Unit) :
    iprop(records m ρ K ∗ cred (tallyAt (recvCell j c) () N) ∗ owes (c : Thread nD τ) 0 W ∗ atPos ER (recvCell j c) 0 ∅ 0)
      ⊢ iprop(((owes (c : Thread nD τ) 0 (insert (SemLoc.dma (recvS j), ()) W) ∗ bufOwn j c (lst m ρ (peer j c)) ∗ atPos ER (recvCell j c) 1 ∅ 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src (bM j) hsrc hdst) k) Q) := by
  iintro ⟨#HR, Hc, HO, Hat⟩ Hk
  iapply (Rounds.wp_wait_rest_token 𝒱₀ ER (exRd m ρ) (c : Thread nD τ) none (κ := K (c, rIx j))
      (wpE_waitDma2_eq 𝒱₀ (c : Thread nD τ) none Set.univ) (Set.mem_univ _) () (O := 0) (W := W) (R := 0) (m := 0) (T := ∅)
      (by rw [Nat.zero_add, expect_recv, credit_b])) $$ [Hc HO Hat]
  · isplitr; · iapply (inv_recv m ρ K j c); iexact HR
    isplitl [Hc]; · rw [credit_b]; iexact Hc
    isplitl [HO]; · iexact HO
    isplitr; · rw [MayWait_zero]; iempintro
    iexact Hat
  iintro ⟨HO, Hat, -, Hpay⟩
  iapply Hk
  isplitl [HO]; · iexact HO
  isplitl [Hpay]; · iapply (Entails.of_eq ((rest_recv m ρ c j).trans (by unfold recvPay; rfl))); iexact Hpay
  iexact Hat

/-- A cell past its round closes: its counter is at zero. -/
theorem close_send (j : Fin 3) (c : Dev nD) : iprop(records m ρ K ∗ atPos ER (sendCell j c) 1 ∅ 0) ⊢ iprop(|={Set.univ}=> semVal (sendCell j c) 0) := by
  iintro ⟨#HR, Hat⟩
  iapply (Rounds.cell_close ER (exRd m ρ) (Set.mem_univ (K (c, sIx j))) (fun h => h) (R := 1) (duties_later m ρ (sendCell j c)))
  isplitr; · iapply (inv_send m ρ K j c); iexact HR
  iexact Hat
theorem close_recv (j : Fin 3) (c : Dev nD) : iprop(records m ρ K ∗ atPos ER (recvCell j c) 1 ∅ 0) ⊢ iprop(|={Set.univ}=> semVal (recvCell j c) 0) := by
  iintro ⟨#HR, Hat⟩
  iapply (Rounds.cell_close ER (exRd m ρ) (Set.mem_univ (K (c, rIx j))) (fun h => h) (R := 1) (duties_later m ρ (recvCell j c)))
  isplitr; · iapply (inv_recv m ρ K j c); iexact HR
  iexact Hat
theorem close_bar (c : Dev nD) : iprop(records m ρ K ∗ atPos ER (barCell c) 1 ∅ 0) ⊢ iprop(|={Set.univ}=> semVal (barCell c) 0) := by
  iintro ⟨#HR, Hat⟩
  iapply (Rounds.cell_close ER (exRd m ρ) (Set.mem_univ (K (c, 0))) (fun h => h) (R := 1) (duties_later m ρ (barCell c)))
  isplitr; · iapply (inv_bar m ρ K c); iexact HR
  iexact Hat

/-- The list's buffer in the three shares the transfers read. -/
theorem lt_split (c : Dev nD) (X : Vec F S1024x32 .f32) : ltPts fullShare c X ⊣⊢ iprop(ltPts (sh 0) c X ∗ ltPts (sh 1) c X ∗ ltPts (sh 2) c X) := by
  unfold ltPts
  refine ⟨?_, ?_⟩
  · iintro H
    ihave H' := (pointsTo_share (PosShare.mem_left_op_right fullShare)).1 $$ H
    icases H' with ⟨H0, H⟩
    ihave H' := (pointsTo_share (PosShare.mem_left_op_right fullShare.right)).1 $$ H
    icases H' with ⟨H1, H2⟩
    isplitl [H0]; · iexact H0
    isplitl [H1] <;> iassumption
  · iintro ⟨H0, H1, H2⟩
    iapply (pointsTo_share (PosShare.mem_left_op_right fullShare)).2
    isplitl [H0]; · iexact H0
    iapply (pointsTo_share (PosShare.mem_left_op_right fullShare.right)).2
    isplitl [H1] <;> iassumption

end Steps

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × Fin 7 → ℕ)

def bodyPre (c : Dev nD) : sProp 𝕄 :=
  iprop((ghost m ρ K c ∗ credits c ∗ levAts L lv ∗ scratches c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 1600000 in
/-- The body from `bodyPre` to `bodyPost`, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) oM (Memref.isWhole_whole _) candM (Memref.isWhole_whole _) ltM (Memref.isWhole_whole _)
            yM (Memref.isWhole_whole _) zM (Memref.isWhole_whole _) dM (Memref.isWhole_whole _) cc0_scratch5 cc0_scratch6) Kt := by
  simp only [cc0_body_eq_skeleton]; unfold cc0_body_skel
  simp only [k0_part3_eq_skeleton, k0_part4_eq_skeleton, k0_part5_eq_skeleton]; unfold k0_part3_skel k0_part4_skel k0_part5_skel
  simp only [semSignalWord, semWaitWord, Prog.lift, Prog.bind_op, Prog.bind_ret, Prog.pure_eq_ret, Prog.bind_assoc, wp_deviceId]
  unfold bodyPre ghost credits scratches atJ tokJ
  iintro ⟨⟨⟨⟨#HR, ⟨HatB, ⟨HaS0, HaV0⟩, ⟨HaS1, HaV1⟩, ⟨HaS2, HaV2⟩⟩, ⟨HtB0, HtV0, HtS0⟩, ⟨HtB1, HtV1, HtS1⟩, ⟨HtB2, HtV2, HtS2⟩⟩, ⟨HcB, HcV0, HcV1, HcV2⟩, #Hlev,
    ⟨Hcand, ⟨%fl, Hlt⟩, Hb0, Hb1, Hb2⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the device's own list
  iapply (t1_run cc0_scratch5 cc0_scratch6 c (xstg m ρ c) _) $$ [Hx Hcand]
  · isplitl [Hx] <;> iassumption
  iintro %v ⟨Hx, Hcand⟩
  iapply (wp_load 𝒱₀ (c : Thread nD τ) none Set.univ (m := candM) (Finset.subset_univ _)) $$ Hcand; iintro Hcand
  rw [read_cand]
  iapply (t3_run cc0_scratch5 cc0_scratch6 c (candC c (xstg m ρ c))) $$ []
  · iempintro
  iapply (wp_load 𝒱₀ (c : Thread nD τ) none Set.univ (m := ltM) (Finset.subset_univ _)) $$ Hlt; iintro Hlt
  iapply (wp_store 𝒱₀ (c : Thread nD τ) none Set.univ (m := ltM) (r := rL) (Mk := Finset.univ) (Finset.subset_univ _)) $$ Hlt; iintro Hlt
  rw [write_lt]
  -- the three signals: to peer `j`'s barrier, with the landing buffer `j` and the mark on the receive cell `j`
  unfold O₀
  iapply (Rounds.wp_signal 𝒱₀ ER (exRd m ρ) (c : Thread nD τ) none (dst := (peer 0 c : Thread nD τ)) (κ := K (peer 0 c, 0))
      (d := 0) (by rw [duties_bar]; exact Finset.mem_univ _) ((amount_bar m ρ (peer 0 c) 0).trans (by decide)) () ((Ox c + oweB 2 c) + oweB 1 c) rfl)
    $$ [HO HtB0 Hb0]
  · isplitr; · iapply (inv_bar m ρ K (peer 0 c)); iexact HR
    isplitl [HO]; · iexact HO
    isplitl [HtB0]; · iexact HtB0
    isplitl [Hb0]
    · rw [payload_bar]; unfold barPay; rw [peer_peer]
      isplitl [Hb0]; · iexact Hb0
      iapply (reached_recv m ρ K 0 c); iexact HR
    iapply (reached_bar m ρ K (peer 0 c)); iexact HR
  iintro HO
  iapply (Rounds.wp_signal 𝒱₀ ER (exRd m ρ) (c : Thread nD τ) none (dst := (peer 1 c : Thread nD τ)) (κ := K (peer 1 c, 0))
      (d := 1) (by rw [duties_bar]; exact Finset.mem_univ _) ((amount_bar m ρ (peer 1 c) 1).trans (by decide)) () (Ox c + oweB 2 c) rfl)
    $$ [HO HtB1 Hb1]
  · isplitr; · iapply (inv_bar m ρ K (peer 1 c)); iexact HR
    isplitl [HO]; · iexact HO
    isplitl [HtB1]; · iexact HtB1
    isplitl [Hb1]
    · rw [payload_bar]; unfold barPay; rw [peer_peer]
      isplitl [Hb1]; · iexact Hb1
      iapply (reached_recv m ρ K 1 c); iexact HR
    iapply (reached_bar m ρ K (peer 1 c)); iexact HR
  iintro HO
  iapply (Rounds.wp_signal 𝒱₀ ER (exRd m ρ) (c : Thread nD τ) none (dst := (peer 2 c : Thread nD τ)) (κ := K (peer 2 c, 0))
      (d := 2) (by rw [duties_bar]; exact Finset.mem_univ _) ((amount_bar m ρ (peer 2 c) 2).trans (by decide)) () (Ox c) rfl)
    $$ [HO HtB2 Hb2]
  · isplitr; · iapply (inv_bar m ρ K (peer 2 c)); iexact HR
    isplitl [HO]; · iexact HO
    isplitl [HtB2]; · iexact HtB2
    isplitl [Hb2]
    · rw [payload_bar]; unfold barPay; rw [peer_peer]
      isplitl [Hb2]; · iexact Hb2
      iapply (reached_recv m ρ K 2 c); iexact HR
    iapply (reached_bar m ρ K (peer 2 c)); iexact HR
  iintro HO
  -- the wait for the three signals: the three peers' landing buffers
  iapply (Rounds.wp_wait_rest_token 𝒱₀ ER (exRd m ρ) (c : Thread nD τ) none (κ := K (c, 0))
      (wpE_semWait_eq 𝒱₀ (c : Thread nD τ) none Set.univ) (Set.mem_univ _) () (O := Ox c) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨Hn0, -⟩, ⟨Hn1, -⟩, ⟨Hn2, -⟩⟩
  -- the three transfers, each reading a share of the list
  ihave Hl := (Entails.of_eq (ltPts_eq fullShare c (lst m ρ c)).symm) $$ [Hlt]
  · unfold lst ltC; iexact Hlt
  ihave Hl' := (lt_split c (lst m ρ c)).1 $$ Hl
  icases Hl' with ⟨Hl0, Hl1, Hl2⟩
  unfold Ox
  iapply (send_step m ρ K 0 c _ (dev4_eq c) (oweR 2 c + oweR 1 c) (insert (SemLoc.reg barS, ()) W)) $$ [Hl0 Hn0 HO HtV0 HtS0]
  · isplitr; · iexact HR
    isplitl [Hl0]; · iexact Hl0
    isplitl [Hn0]; · iexact Hn0
    isplitl [HO]; · iexact HO
    isplitl [HtV0] <;> iassumption
  iintro ⟨HcS0, HO⟩
  iapply (send_step m ρ K 1 c _ (dev5_eq c) (oweR 2 c) (insert (SemLoc.reg barS, ()) W)) $$ [Hl1 Hn1 HO HtV1 HtS1]
  · isplitr; · iexact HR
    isplitl [Hl1]; · iexact Hl1
    isplitl [Hn1]; · iexact Hn1
    isplitl [HO]; · iexact HO
    isplitl [HtV1] <;> iassumption
  iintro ⟨HcS1, HO⟩
  ihave HO := (Entails.of_eq (congrArg (fun o => (owes (c : Thread nD τ) o (insert (SemLoc.reg barS, ()) W) : sProp 𝕄)) (zero_add (oweR 2 c)).symm)) $$ HO
  iapply (send_step m ρ K 2 c _ (dev6_eq c) 0 (insert (SemLoc.reg barS, ()) W)) $$ [Hl2 Hn2 HO HtV2 HtS2]
  · isplitr; · iexact HR
    isplitl [Hl2]; · iexact Hl2
    isplitl [Hn2]; · iexact Hn2
    isplitl [HO]; · iexact HO
    isplitl [HtV2] <;> iassumption
  iintro ⟨HcS2, HO⟩
  -- the six waits
  iapply (wait_send_step m ρ K 0 c (insert (SemLoc.reg barS, ()) W)) $$ [HcS0 HO HaS0]
  · isplitr; · iexact HR
    isplitl [HcS0]; · iexact HcS0
    isplitl [HO] <;> iassumption
  iintro ⟨HO, Hl0, HaS0⟩
  iapply (wait_recv_step m ρ K 0 c (insert (SemLoc.dma (sendS 0), ()) (insert (SemLoc.reg barS, ()) W))) $$ [HcV0 HO HaV0]
  · isplitr; · iexact HR
    isplitl [HcV0]; · iexact HcV0
    isplitl [HO] <;> iassumption
  iintro ⟨HO, Hb0, HaV0⟩
  iapply (wait_send_step m ρ K 1 c (insert (SemLoc.dma (recvS 0), ()) (insert (SemLoc.dma (sendS 0), ()) (insert (SemLoc.reg barS, ()) W)))) $$ [HcS1 HO HaS1]
  · isplitr; · iexact HR
    isplitl [HcS1]; · iexact HcS1
    isplitl [HO] <;> iassumption
  iintro ⟨HO, Hl1, HaS1⟩
  iapply (wait_recv_step m ρ K 1 c (insert (SemLoc.dma (sendS 1), ()) (insert (SemLoc.dma (recvS 0), ()) (insert (SemLoc.dma (sendS 0), ()) (insert (SemLoc.reg barS, ()) W))))) $$ [HcV1 HO HaV1]
  · isplitr; · iexact HR
    isplitl [HcV1]; · iexact HcV1
    isplitl [HO] <;> iassumption
  iintro ⟨HO, Hb1, HaV1⟩
  iapply (wait_send_step m ρ K 2 c (insert (SemLoc.dma (recvS 1), ()) (insert (SemLoc.dma (sendS 1), ()) (insert (SemLoc.dma (recvS 0), ()) (insert (SemLoc.dma (sendS 0), ()) (insert (SemLoc.reg barS, ()) W)))))) $$ [HcS2 HO HaS2]
  · isplitr; · iexact HR
    isplitl [HcS2]; · iexact HcS2
    isplitl [HO] <;> iassumption
  iintro ⟨HO, Hl2, HaS2⟩
  iapply (wait_recv_step m ρ K 2 c (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W))))))) $$ [HcV2 HO HaV2]
  · isplitr; · iexact HR
    isplitl [HcV2]; · iexact HcV2
    isplitl [HO] <;> iassumption
  iintro ⟨HO, Hb2, HaV2⟩
  imod (close_send m ρ K 0 c) $$ [HaS0] with HzS0
  · isplitr; · iexact HR
    iexact HaS0
  imod (close_recv m ρ K 0 c) $$ [HaV0] with HzV0
  · isplitr; · iexact HR
    iexact HaV0
  imod (close_send m ρ K 1 c) $$ [HaS1] with HzS1
  · isplitr; · iexact HR
    iexact HaS1
  imod (close_recv m ρ K 1 c) $$ [HaV1] with HzV1
  · isplitr; · iexact HR
    iexact HaV1
  imod (close_send m ρ K 2 c) $$ [HaS2] with HzS2
  · isplitr; · iexact HR
    iexact HaS2
  imod (close_recv m ρ K 2 c) $$ [HaV2] with HzV2
  · isplitr; · iexact HR
    iexact HaV2
  imod (close_bar m ρ K c) $$ [HatB] with HzB
  · isplitr; · iexact HR
    iexact HatB
  -- the four lists, and the extraction from them
  ihave Hl := (lt_split c (lst m ρ c)).2 $$ [Hl0 Hl1 Hl2]
  · isplitl [Hl0]; · iexact Hl0
    isplitl [Hl1] <;> iassumption
  ihave Hlt := (Entails.of_eq (ltPts_eq fullShare c (lst m ρ c))) $$ Hl
  ihave Hb0 := (Entails.of_eq (bufOwn0 c (lst m ρ (peer 0 c)))) $$ Hb0
  ihave Hb1 := (Entails.of_eq (bufOwn1 c (lst m ρ (peer 1 c)))) $$ Hb1
  ihave Hb2 := (Entails.of_eq (bufOwn2 c (lst m ρ (peer 2 c)))) $$ Hb2
  icases Hb0 with ⟨%f0, %hf0, Hb0⟩
  icases Hb1 with ⟨%f1, %hf1, Hb1⟩
  icases Hb2 with ⟨%f2, %hf2, Hb2⟩
  subst hf0 hf1 hf2
  iapply (wp_load 𝒱₀ (c : Thread nD τ) none Set.univ (m := ltM) (Finset.subset_univ _)) $$ Hlt; iintro Hlt
  rw [read_lt]
  iapply (wp_load 𝒱₀ (c : Thread nD τ) none Set.univ (m := yM) (Finset.subset_univ _)) $$ Hb0; iintro Hb0
  rw [read_y]
  iapply (wp_load 𝒱₀ (c : Thread nD τ) none Set.univ (m := zM) (Finset.subset_univ _)) $$ Hb1; iintro Hb1
  rw [read_z]
  iapply (wp_load 𝒱₀ (c : Thread nD τ) none Set.univ (m := dM) (Finset.subset_univ _)) $$ Hb2; iintro Hb2
  rw [read_d]
  iapply (t4_run cc0_scratch5 cc0_scratch6 c (lst m ρ c) (lst m ρ (peer 0 c)) (lst m ρ (peer 1 c)) (lst m ρ (peer 2 c))) $$ []
  · iempintro
  iapply (wp_load 𝒱₀ (c : Thread nD τ) none Set.univ (m := oM) (Finset.subset_univ _)) $$ Hout; iintro Hout
  iapply (wp_store 𝒱₀ (c : Thread nD τ) none Set.univ (m := oM) (r := rL) (Mk := Finset.univ) (Finset.subset_univ _)) $$ Hout; iintro Hout
  rw [write_out, wp_ret]; imodintro
  iapply Hk
  unfold bodyPost Φ₁ scratches Dat.owesAt Pipeline.owesWithin
  rw [show (dats m ρ 0 c).owed t₀.succ = 0 from rfl, bufAny0, bufAny1, bufAny2]
  isplitl [Hcand Hlt Hb0 Hb1 Hb2 HzS0 HzS1 HzS2 HzV0 HzV1 HzV2 HzB]
  · isplitl [Hcand Hlt Hb0 Hb1 Hb2]
    · isplitl [Hcand]; · iexists _; iexact Hcand
      isplitl [Hlt]; · iexists _; iexact Hlt
      isplitl [Hb0]; · iexists _; iexact Hb0
      isplitl [Hb1]; · iexists _; iexact Hb1
      iexists _; iexact Hb2
    isplitl [HzS0 HzS1 HzS2 HzV0 HzV1 HzV2]
    · isplitl [HzS0]; · iexact HzS0
      isplitl [HzS1]; · iexact HzS1
      isplitl [HzS2]; · iexact HzS2
      isplitl [HzV0]; · iexact HzV0
      isplitl [HzV1] <;> iassumption
    iexact HzB
  isplitl [HO]
  · iexists (insert (SemLoc.dma (recvS 2), ()) (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's obligation on the body at device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body xM (Memref.isWhole_whole _) oM (Memref.isWhole_whole _) candM (Memref.isWhole_whole _) ltM (Memref.isWhole_whole _)
            yM (Memref.isWhole_whole _) zM (Memref.isWhole_whole _) dM (Memref.isWhole_whole _) cc0_scratch5 cc0_scratch6) (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    isplitl [Ho]; · iexact Ho
    isplitl [Hx] <;> iassumption
  · iintro H; iexact H

end Body

end Cert.KernelIdealProof

end
-- ==== Proof.KernelIdealLaunch.lean ====
/-
# 01_k, `KernelIdeal`: the launch

The launch allocates the invariants of all four devices' cells at once, deals every device the tokens of the duties it
pays, and runs the bodies. Afterwards a device's result array holds `outAt`, its argument what it held, and every
semaphore counter is zero.
-/
module

public import proofs.«01_k».proof.Proof.KernelIdealBody
public import Idealize.ShloMosaic.Lib.Pipeline.CollectiveSegs
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Fin 7, csem k = csem k' → k = k' := by decide
theorem recvS_inj : ∀ j j' : Fin 3, SemLoc.dma (recvS j) = SemLoc.dma (recvS j') → j = j' := by decide
theorem recv_ne_bar : ∀ j : Fin 3, SemLoc.dma (recvS j) ≠ SemLoc.reg barS := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_inj k k' (congrArg Prod.snd h)
  rw [h1, h2]
def exCells : Finset (GSem nD τ sig) := Finset.univ.map ⟨kcell, kcell_injective⟩

/-- The duties of a device's own cells: its barrier's duty `j`, its receive cell `j`'s, its send cell `j`'s. -/
abbrev tokSem (p : Fin 3 × Fin 3) : SemLoc sig × Fin 3 := match p.2 with
  | 0 => (.reg barS, p.1) | 1 => (.dma (recvS p.1), 0) | 2 => (.dma (sendS p.1), 0)
theorem tokSem_inj : ∀ p p' : Fin 3 × Fin 3, tokSem p = tokSem p' → p = p' := by decide
abbrev tokOf (x : Dev nD × (Fin 3 × Fin 3)) : GSem nD τ sig × ℕ × Fin 3 := (((x.1 : Thread nD τ), (tokSem x.2).1), 0, (tokSem x.2).2)
theorem tokOf_injective : Function.Injective (tokOf : Dev nD × (Fin 3 × Fin 3) → GSem nD τ sig × ℕ × Fin 3) := by
  rintro ⟨c, p⟩ ⟨c', p'⟩ h
  have h1 : c = c' := congrArg (fun x : GSem nD τ sig × ℕ × Fin 3 => x.1.1.1) h
  have h2 : tokSem p = tokSem p' := congrArg (fun x : GSem nD τ sig × ℕ × Fin 3 => (x.1.2, x.2.2)) h
  rw [h1, tokSem_inj p p' h2]
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The duty tokens `j` of device `c`'s own cells. -/
def ownTok (j : Fin 3) (c : Dev nD) : sProp 𝕄 :=
  iprop(dutyTok ER (barCell c) 0 j ∗ dutyTok ER (recvCell j c) 0 0 ∗ dutyTok ER (sendCell j c) 0 0)
def toks (c : Dev nD) : sProp 𝕄 := iprop(ownTok 0 c ∗ ownTok 1 c ∗ ownTok 2 c)

/-- What the launch deals device `c`. -/
def G (c : Dev nD) : sProp 𝕄 :=
  iprop((bigSep Finset.univ fun k : Fin 7 => roundState ER (exRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 7 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks ownTok; rw [bigSep_univ_prod, bigSep_fin3, bigSep_fin3, bigSep_fin3, bigSep_fin3]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat] <;> iassumption

/-- What stays with device `c`: its positions, and the tokens of the duties it pays. -/
def linear (c : Dev nD) : sProp 𝕄 :=
  iprop((bigSep Finset.univ fun k : Fin 7 => atPos ER (kcell (c, k)) 0 ∅ 0) ∗ (tokJ 0 c ∗ tokJ 1 c ∗ tokJ 2 c))

theorem ghost_intro (K : Dev nD × Fin 7 → ℕ) (c : Dev nD) : iprop(records m ρ K ∗ linear c) ⊢ G' m ρ c := by
  unfold linear G' ghost atJ
  rw [bigSep_fin7]
  iintro ⟨HR, ⟨HB, HS0, HS1, HS2, HV0, HV1, HV2⟩, Ht⟩
  iexists K
  isplitl [HR]; · iexact HR
  isplitr [Ht]
  · isplitl [HB]; · iexact HB
    isplitl [HS0 HV0]; · isplitl [HS0] <;> iassumption
    isplitl [HS1 HV1]; · isplitl [HS1] <;> iassumption
    isplitl [HS2] <;> iassumption
  iexact Ht

/-- The tokens of a device's barrier duty `j` and receive cell `j` go to its peer `j`; its send token stays. -/
theorem tok_around (j : Fin 3) : (bigSep Finset.univ fun c : Dev nD => (ownTok j c : sProp 𝕄)) ⊢ bigSep Finset.univ fun c : Dev nD => tokJ j c := by
  unfold ownTok tokJ
  rw [bigSep_sep', bigSep_sep', bigSep_sep', bigSep_sep',
    bigSep_univ_equiv (peerEquiv j) (fun c : Dev nD => (dutyTok ER (barCell c) 0 j : sProp 𝕄)),
    bigSep_univ_equiv (peerEquiv j) (fun c : Dev nD => (dutyTok ER (recvCell j c) 0 0 : sProp 𝕄))]
  iintro H; iexact H

theorem toks_around : (bigSep Finset.univ fun c : Dev nD => (toks c : sProp 𝕄)) ⊢ bigSep Finset.univ fun c : Dev nD => iprop(tokJ 0 c ∗ tokJ 1 c ∗ tokJ 2 c) := by
  unfold toks
  rw [bigSep_sep', bigSep_sep', bigSep_sep', bigSep_sep']
  iintro ⟨H0, H1, H2⟩
  isplitl [H0]; · iapply (tok_around (F := F) 0); iexact H0
  isplitl [H1]; · iapply (tok_around (F := F) 1); iexact H1
  iapply (tok_around (F := F) 2); iexact H2

theorem bigSep_persistent_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (exRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (exRd m ρ) κ (kcell ck) : sProp 𝕄))) $$ HI
  icases HK with ⟨%K, #HI⟩
  ihave Htk := (toks_around (F := F)) $$ Htok
  iapply (bigSep_persistent_with (R := records m ρ K) fun c _ => ghost_intro m ρ K c)
  isplitr
  · unfold records; isplitl; · iexact HI
    iexact HR
  · iapply (Entails.of_eq (bigSep_sep' Finset.univ (fun c : Dev nD => bigSep Finset.univ fun k : Fin 7 => (atPos ER (kcell (c, k)) 0 ∅ 0 : sProp 𝕄))
      (fun c => iprop(tokJ 0 c ∗ tokJ 1 c ∗ tokJ 2 c))).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem peer_eq_iff {j : Fin 3} {d c : Dev nD} : Iff (c = peer j d) (d = peer j c) :=
  ⟨fun h => by rw [h, peer_peer], fun h => by rw [h, peer_peer]⟩

theorem oweB_bar (j : Fin 3) (d c : Dev nD) : oweB j d (barCell c) () = if d = peer j c then 1 else 0 := by
  unfold oweB; rw [tallyAt_apply]
  refine if_congr ⟨fun h => peer_eq_iff.mp (congrArg (fun g : GSem nD τ sig => g.1.1) h.1), fun h => ⟨?_, rfl⟩⟩ rfl rfl
  rw [← peer_eq_iff.mpr h]
theorem oweR_bar (j : Fin 3) (d c : Dev nD) : oweR j d (barCell c) () = 0 := by
  unfold oweR; rw [tallyAt_apply]; exact if_neg fun h => recv_ne_bar j (congrArg Prod.snd h.1).symm
theorem oweB_recv (i j : Fin 3) (d c : Dev nD) : oweB i d (recvCell j c) () = 0 := by
  unfold oweB; rw [tallyAt_apply]; exact if_neg fun h => recv_ne_bar j (congrArg Prod.snd h.1)
theorem oweR_recv (j : Fin 3) (d c : Dev nD) : oweR j d (recvCell j c) () = if d = peer j c then N else 0 := by
  unfold oweR; rw [tallyAt_apply]
  refine if_congr ⟨fun h => peer_eq_iff.mp (congrArg (fun g : GSem nD τ sig => g.1.1) h.1), fun h => ⟨?_, rfl⟩⟩ rfl rfl
  rw [← peer_eq_iff.mpr h]
theorem oweR_other {i j : Fin 3} (h : i ≠ j) (d c : Dev nD) : oweR i d (recvCell j c) () = 0 := by
  unfold oweR; rw [tallyAt_apply]; exact if_neg fun e => h (recvS_inj i j (congrArg Prod.snd e.1).symm)

theorem O₀_apply (d : Dev nD) (g : GSem nD τ sig) : O₀ d g () = oweR 2 d g () + oweR 1 d g () + oweR 0 d g () + oweB 2 d g () + oweB 1 d g () + oweB 0 d g () := by
  unfold O₀ Ox; simp only [Pi.add_apply, Finsupp.add_apply]

theorem owed_bar (d c : Dev nD) : O₀ d (barCell c) () = (if d = peer 2 c then 1 else 0) + (if d = peer 1 c then 1 else 0) + (if d = peer 0 c then 1 else 0) := by
  simp only [O₀_apply, oweR_bar, oweB_bar, Nat.zero_add]
theorem owed_recv (j : Fin 3) (d c : Dev nD) : O₀ d (recvCell j c) () = if d = peer j c then N else 0 := by
  rw [O₀_apply]; simp only [oweB_recv, Nat.add_zero]
  fin_cases j
  · rw [oweR_other (by decide), oweR_other (by decide)]; simp only [Nat.zero_add]; exact oweR_recv 0 d c
  · rw [oweR_other (i := 2) (by decide), oweR_other (i := 0) (by decide)]; simp only [Nat.zero_add, Nat.add_zero]; exact oweR_recv 1 d c
  · rw [oweR_other (i := 1) (by decide), oweR_other (i := 0) (by decide)]; simp only [Nat.add_zero]; exact oweR_recv 2 d c

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (j : Fin 3) (c : Dev nD) :
    tallyOn (recvCell j c) (launchCredit (Pipeline.owing O₀) 0 (recvCell j c)) = (tallyAt (recvCell j c) () N : CellTallies nD τ sig Unit) := by
  unfold tallyAt; refine congrArg _ (Finsupp.ext fun u => ?_); cases u
  rw [Pipeline.launchCredit_owing, Finsupp.single_eq_same, Finset.sum_congr rfl fun d _ => owed_recv j d c, Finset.sum_ite_eq' Finset.univ (peer j c) fun _ => N,
    if_pos (Finset.mem_univ _)]

theorem creds (c : Dev nD) : (Pipeline.launchCred O₀ c : sProp 𝕄) ⊢ credits c := by
  unfold Pipeline.launchCred credits
  rw [← launch_bar, ← launch_recv 0, ← launch_recv 1, ← launch_recv 2]
  have hsub : ({SemLoc.reg barS, .dma (recvS 0), .dma (recvS 1), .dma (recvS 2)} : Finset (SemLoc sig)) ⊆ Finset.univ := Finset.subset_univ _
  refine (show _ ⊢ _ from bigSep_subset hsub).trans (Entails.of_eq ?_)
  rw [bigSep_eq_bigSepL_of_eq [SemLoc.reg barS, .dma (recvS 0), .dma (recvS 1), .dma (recvS 2)] (by decide) (by decide)]; rfl

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem scopedRest_eq (c : Dev nD) : (Pipeline.scopedRest cfg0.spec c : sProp 𝕄) = scratches c := by
  rw [scopedRest0_eq]; unfold scratches; rw [bufAny0, bufAny1, bufAny2]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest_eq, ownSems0_eq, unscopedSems0_eq]
  unfold Φ₁
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the four devices, from any memory with zero counters: every weakly fair execution terminates, with each device's
    arrays as computed and every semaphore counter at zero. -/
theorem run_main : θ_run (defs (F := F)) (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds `outAt`. -/
theorem finalA_out (c : Dev nD) : finalA m ρ c (1 : Fin 2) = outAt m ρ c := by
  refine (dats (F := F) m ρ 0 c).arrAt_eq_of_after_last (1 : Fin 2) t₀ (by decide +kernel) (outAt m ρ c) fun j => ?_
  rfl

/-- The staged argument is the argument. -/
theorem xstg_eq (c : Dev nD) : xstg m ρ c = m ((c : Thread nD τ).loc main_arg0) := by
  unfold xstg
  funext i
  rw [View.read_apply]
  show m ((c : Thread nD τ).loc main_arg0) (((win0_0.blk (0 : Fin 1)).view).emb i) = m ((c : Thread nD τ).loc main_arg0) i
  congr 1
  funext a; apply Fin.ext
  exact Pipeline.Window.rect_emb_val_of_index_zero win0_0 (0 : Fin 1) a (by fin_cases a <;> rfl) i

/-- The run, read at the two arrays: the result holds `outAt`, the argument what it held, and every counter is zero. -/
theorem run_read : θ_run (defs (F := F)) (onTc (τ := τ) (main (F := F))) (s₀ m ρ) (fun r =>
    (∀ c : Dev nD, r.2.mem (c.tc.loc main_v1) = outAt m ρ c ∧ r.2.mem (c.tc.loc main_arg0) = m (c.tc.loc main_arg0)) ∧ r.2.sem = fun _ => 0) :=
  (θ_run _ _ _).mono (fun r h => ⟨fun c => ⟨(h.1 c (1 : Fin 2)).trans (finalA_out m ρ c), (h.1 c (0 : Fin 2)).trans (finalA_x m ρ c)⟩, h.2⟩) (run_main m ρ)

end Cert.KernelIdealProof

end
-- ==== Proof.TopList.lean ====
/-
# The distinct values of a finite family, taken from the top

`below f p` is the largest entry of `f` below `p` (the bottom if there is none); `taken f` takes the entries one after
another, from the top down, each time the largest entry below the one before. On a family whose `k + 1` largest entries
are distinct and below the top, `taken f (k + 1)` is the `k`-th of them (`taken_eq_of_list`). An entry at or above which
the family has at most `n` values is among the first `n` taken (`exists_taken_eq`); so a family may be replaced by what
was taken from each of its groups, as long as each group has few entries at or above the ones wanted (`two_rounds`).
-/
module

public import Mathlib.Data.EReal.Basic
public import Mathlib.Data.Finset.Lattice.Fold
public import Mathlib.Data.Fintype.Card

@[expose] public section

noncomputable section

namespace Cert.TopList

variable {ι κ : Type} [Fintype ι] [Fintype κ]

/-- The largest entry below `p`, the bottom if there is none. -/
def below (f : ι → EReal) (p : EReal) : EReal := Finset.univ.sup fun i => if f i < p then f i else ⊥

/-- What is taken after `n` rounds. -/
def taken (f : ι → EReal) : ℕ → EReal
  | 0 => ⊤
  | n + 1 => below f (taken f n)

theorem le_below {f : ι → EReal} {p : EReal} {i : ι} (h : f i < p) : f i ≤ below f p := by
  have := Finset.le_sup (f := fun i => if f i < p then f i else ⊥) (Finset.mem_univ i)
  rwa [if_pos h] at this

theorem below_le {f : ι → EReal} {p t : EReal} (h : ∀ i, f i < p → f i ≤ t) : below f p ≤ t := by
  refine Finset.sup_le fun i _ => ?_
  split
  · exact h i ‹_›
  · exact bot_le

theorem below_mem (f : ι → EReal) (p : EReal) (h : below f p ≠ ⊥) : ∃ i, f i = below f p ∧ f i < p := by
  have hne : (Finset.univ : Finset ι).Nonempty := by
    by_contra he
    rw [Finset.not_nonempty_iff_eq_empty] at he
    exact h (by rw [below, he, Finset.sup_empty])
  obtain ⟨i, _, hi⟩ := Finset.exists_mem_eq_sup Finset.univ hne fun i => if f i < p then f i else ⊥
  have hi' : below f p = if f i < p then f i else ⊥ := hi
  by_cases hp : f i < p
  · rw [if_pos hp] at hi'
    exact ⟨i, hi'.symm, hp⟩
  · rw [if_neg hp] at hi'
    exact absurd hi' h

/-- The values of `f` at or above `v`. -/
def above (f : ι → EReal) (v : EReal) : Finset EReal := (Finset.univ.image f).filter (v ≤ ·)

theorem mem_above {f : ι → EReal} {v w : EReal} : w ∈ above f v ↔ (∃ i, f i = w) ∧ v ≤ w := by
  simp [above]

/-- The rounds so far took distinct values. -/
theorem le_card_above (f : ι → EReal) : ∀ n, taken f n ≠ ⊥ → n ≤ (above f (taken f n)).card
  | 0, _ => Nat.zero_le _
  | n + 1, h => by
    obtain ⟨i, hi, hlt⟩ := below_mem f (taken f n) h
    have ih := le_card_above f n fun e => not_lt_bot (e ▸ hlt)
    have hsub : insert (f i) (above f (taken f n)) ⊆ above f (taken f (n + 1)) := by
      intro w hw
      rcases Finset.mem_insert.1 hw with rfl | hw
      · exact mem_above.2 ⟨⟨i, rfl⟩, le_of_eq hi.symm⟩
      · obtain ⟨hw, hle⟩ := mem_above.1 hw
        exact mem_above.2 ⟨hw, le_trans (le_of_eq hi.symm) (le_trans hlt.le hle)⟩
    have hnot : f i ∉ above f (taken f n) := fun hm => absurd hlt (not_lt.2 (mem_above.1 hm).2)
    have := Finset.card_le_card hsub
    rw [Finset.card_insert_of_notMem hnot] at this
    omega

/-- Of a value at or above which there are at most `n`, one of the first `n` rounds takes it. -/
theorem exists_taken_eq {f : ι → EReal} {i : ι} {n : ℕ} (ht : f i < ⊤) (hb : f i ≠ ⊥) (hc : (above f (f i)).card ≤ n) :
    ∃ k < n, taken f (k + 1) = f i := by
  by_contra hno
  push Not at hno
  have key : ∀ k ≤ n, f i < taken f k := by
    intro k
    induction k with
    | zero => exact fun _ => ht
    | succ k ih =>
      intro hk
      exact lt_of_le_of_ne (le_below (ih (by omega))) (Ne.symm (hno k (by omega)))
  have hlt := key n le_rfl
  have hn := le_card_above f n (ne_of_gt (lt_of_le_of_lt bot_le hlt))
  have hsub : insert (f i) (above f (taken f n)) ⊆ above f (f i) := by
    intro w hw
    rcases Finset.mem_insert.1 hw with rfl | hw
    · exact mem_above.2 ⟨⟨i, rfl⟩, le_rfl⟩
    · obtain ⟨hw, hle⟩ := mem_above.1 hw
      exact mem_above.2 ⟨hw, le_trans hlt.le hle⟩
  have hnot : f i ∉ above f (taken f n) := fun hm => absurd hlt (not_lt.2 (mem_above.1 hm).2)
  have := Finset.card_le_card hsub
  rw [Finset.card_insert_of_notMem hnot] at this
  omega

/-- What is taken is a value of the family, or the bottom. -/
theorem taken_succ_mem (f : ι → EReal) (n : ℕ) : taken f (n + 1) = ⊥ ∨ ∃ i, f i = taken f (n + 1) := by
  by_cases h : taken f (n + 1) = ⊥
  · exact .inl h
  · obtain ⟨i, hi, _⟩ := below_mem f (taken f n) h
    exact .inr ⟨i, hi⟩

/-! ## A family against its sorted list -/

/-- `t` lists the values of `f` from the largest down. -/
structure Lists (f : ι → EReal) (t : ℕ → EReal) (N : ℕ) : Prop where
  mem : ∀ j < N, ∃ i, f i = t j
  top : ∀ i, f i ≤ t 0
  next : ∀ j, j + 1 < N → ∀ i, f i < t j → f i ≤ t (j + 1)
  count : ∀ j < N, (Finset.univ.filter fun i => t j < f i).card ≤ j

/-- `g` holds values of `f` (or the bottom), and all those at or above `v`. -/
structure Keeps (f : ι → EReal) (g : κ → EReal) (v : EReal) : Prop where
  sub : ∀ j, g j = ⊥ ∨ ∃ i, f i = g j
  all : ∀ i, v ≤ f i → ∃ j, g j = f i

theorem Keeps.above_subset {f : ι → EReal} {g : κ → EReal} {v : EReal} (a : ∀ j, g j = ⊥ ∨ ∃ i, f i = g j) (hv : v ≠ ⊥) :
    above g v ⊆ above f v := by
  intro w hw
  obtain ⟨⟨j, rfl⟩, hle⟩ := mem_above.1 hw
  rcases a j with e | h
  · exact absurd (le_bot_iff.1 (e ▸ hle)) hv
  · exact mem_above.2 ⟨h, hle⟩

/-- The list's values down to `t k`, when they fall strictly. -/
theorem Lists.card_above_le {f : ι → EReal} {t : ℕ → EReal} {N : ℕ} (hl : Lists f t N) {k : ℕ} (hk : k < N) :
    (above f (t k)).card ≤ k + 1 := by
  have hsub : above f (t k) ⊆ insert (t k) ((Finset.univ.filter fun i => t k < f i).image f) := by
    intro w hw
    obtain ⟨⟨i, rfl⟩, hle⟩ := mem_above.1 hw
    rcases eq_or_lt_of_le hle with e | hlt
    · exact e ▸ Finset.mem_insert_self _ _
    · exact Finset.mem_insert_of_mem (Finset.mem_image_of_mem f (Finset.mem_filter.2 ⟨Finset.mem_univ _, hlt⟩))
  refine (Finset.card_le_card hsub).trans ((Finset.card_insert_le _ _).trans ?_)
  have := (Finset.card_image_le (s := Finset.univ.filter fun i => t k < f i) (f := f)).trans (hl.count k hk)
  omega

/-- While the list falls strictly from below the top, the rounds on what keeps its values take it entry by entry. -/
theorem taken_eq_of_list {f : ι → EReal} {t : ℕ → EReal} {N : ℕ} (hl : Lists f t N) {g : κ → EReal} {k : ℕ} (hk : k < N)
    (htop : t 0 < ⊤) (hstep : ∀ j < k, t (j + 1) < t j) (hg : Keeps f g (t k)) : taken g (k + 1) = t k := by
  have hdown : ∀ j ≤ k, t k ≤ t j := by
    have : ∀ d, ∀ j, j + d = k → t k ≤ t j := by
      intro d
      induction d with
      | zero => intro j e; exact le_of_eq (by rw [← e]; rfl)
      | succ d ih => intro j e; exact (ih (j + 1) (by omega)).trans (hstep j (by omega)).le
    exact fun j hj => this (k - j) j (by omega)
  have key : ∀ j ≤ k, taken g (j + 1) = t j := by
    intro j
    induction j with
    | zero =>
      intro _
      obtain ⟨i, hi⟩ := hl.mem 0 (by omega)
      obtain ⟨i', hi'⟩ := hg.all i (hi ▸ hdown 0 (by omega))
      refine le_antisymm (below_le fun j _ => ?_) ?_
      · rcases hg.sub j with e | ⟨a, e⟩
        · rw [e]; exact bot_le
        · rw [← e]; exact hl.top a
      · rw [← hi, ← hi']
        exact le_below (show g i' < ⊤ by rw [hi', hi]; exact htop)
    | succ j ih =>
      intro hj
      have e0 := ih (by omega)
      obtain ⟨i, hi⟩ := hl.mem (j + 1) (by omega)
      obtain ⟨i', hi'⟩ := hg.all i (hi ▸ hdown (j + 1) hj)
      show below g (taken g (j + 1)) = _
      rw [e0]
      refine le_antisymm (below_le fun a ha => ?_) ?_
      · rcases hg.sub a with e | ⟨b, e⟩
        · rw [e]; exact bot_le
        · rw [← e]; exact hl.next j (by omega) b (by rw [e]; exact ha)
      · rw [← hi, ← hi']
        exact le_below (by rw [hi', hi]; exact hstep j (by omega))
  exact key k le_rfl

/-- If at most `k` entries are above the bottom, round `k + 1` takes the bottom. -/
theorem taken_eq_bot {f : ι → EReal} {g : κ → EReal} {k : ℕ} (hs : ∀ j, g j = ⊥ ∨ ∃ i, f i = g j)
    (hc : (Finset.univ.filter fun i => ⊥ < f i).card ≤ k) : taken g (k + 1) = ⊥ := by
  by_contra hne
  have h1 := le_card_above g (k + 1) hne
  have h2 := Finset.card_le_card (Keeps.above_subset hs hne)
  have h3 : above f (taken g (k + 1)) ⊆ (Finset.univ.filter fun i => ⊥ < f i).image f := by
    intro w hw
    obtain ⟨⟨i, rfl⟩, hle⟩ := mem_above.1 hw
    exact Finset.mem_image_of_mem f (Finset.mem_filter.2 ⟨Finset.mem_univ _, lt_of_lt_of_le (bot_lt_iff_ne_bot.2 hne) hle⟩)
  have h4 := Finset.card_le_card h3
  have h5 := Finset.card_image_le (s := Finset.univ.filter fun i => ⊥ < f i) (f := f)
  omega

/-! ## The two reductions -/

/-- A family in four parts of 32 rows by 128 lanes, reduced twice: four values of every lane of a part, then 32 of those
    of each part. What is taken of the parts' values together is the list `t` of the whole, entry by entry, as far as the
    list falls strictly from below the top and no lane holds more than four entries at or above its entry `k`; and
    wherever the list has reached the bottom. -/
theorem two_rounds {f : ι → EReal} {t : ℕ → EReal} {N : ℕ} (hl : Lists f t N) {x : Fin 4 → Fin 32 → Fin 128 → EReal}
    (hx : ∀ q s l, ∃ i, f i = x q s l) (hx' : ∀ i, ∃ q s l, x q s l = f i)
    {cand : Fin 4 → Fin 512 → EReal}
    (hcand : ∀ q (j : Fin 512), cand q j = taken (fun s => x q s ⟨j.val % 128, Nat.mod_lt _ (by decide)⟩) (j.val / 128 + 1))
    {own : Fin 4 → Fin 32 → EReal} (hown : ∀ q (p : Fin 32), own q p = taken (cand q) (p.val + 1))
    {g : κ → EReal} (hg : ∀ j, ∃ q p, g j = own q p) (hg' : ∀ q p, ∃ j, g j = own q p) {k : ℕ} (hk : k < 32) (hN : 32 ≤ N)
    (hm : t k = ⊥ ∨ (t 0 < ⊤ ∧ (∀ j < k, t (j + 1) < t j) ∧ ∀ q l, (Finset.univ.filter fun s => t k ≤ x q s l).card ≤ 4)) :
    taken g (k + 1) = t k := by
  -- each stage holds values of the family
  have s0 : ∀ q j, cand q j = ⊥ ∨ ∃ i, f i = cand q j := by
    intro q j
    rcases taken_succ_mem (fun s => x q s ⟨j.val % 128, Nat.mod_lt _ (by decide)⟩) (j.val / 128) with e | ⟨s, e⟩
    · exact .inl ((hcand q j).trans e)
    · obtain ⟨i, hi⟩ := hx q s ⟨j.val % 128, Nat.mod_lt _ (by decide)⟩
      exact .inr ⟨i, hi.trans (e.trans (hcand q j).symm)⟩
  have s1 : ∀ q p, own q p = ⊥ ∨ ∃ i, f i = own q p := by
    intro q p
    rcases taken_succ_mem (cand q) p.val with e | ⟨j, e⟩
    · exact .inl ((hown q p).trans e)
    · rcases s0 q j with e' | ⟨i, e'⟩
      · exact .inl ((hown q p).trans (e.symm.trans e'))
      · exact .inr ⟨i, e'.trans (e.trans (hown q p).symm)⟩
  have s2 : ∀ j, g j = ⊥ ∨ ∃ i, f i = g j := by
    intro j
    obtain ⟨q, p, e⟩ := hg j
    rcases s1 q p with e' | ⟨i, e'⟩
    · exact .inl (e.trans e')
    · exact .inr ⟨i, e'.trans e.symm⟩
  rcases hm with hb | ⟨htop, hstep, hfew⟩
  · rw [hb]
    refine taken_eq_bot s2 ?_
    have := hl.count k (by omega)
    rwa [hb] at this
  by_cases hb : t k = ⊥
  · rw [hb]
    refine taken_eq_bot s2 ?_
    have := hl.count k (by omega)
    rwa [hb] at this
  refine taken_eq_of_list hl (by omega) htop hstep ⟨s2, fun i hi => ?_⟩
  -- and keeps those at or above `t k`
  obtain ⟨q, s, l, e⟩ := hx' i
  have hlt : f i < ⊤ := lt_of_le_of_lt (hl.top i) htop
  have hnb : f i ≠ ⊥ := fun e => hb (le_bot_iff.1 (e ▸ hi))
  have hlane : (above (fun s => x q s l) (x q s l)).card ≤ 4 := by
    refine le_trans (Finset.card_le_card (t := ((Finset.univ.filter fun s => t k ≤ x q s l).image fun s => x q s l)) fun w hw => ?_)
      (Finset.card_image_le.trans (hfew q l))
    obtain ⟨⟨s', rfl⟩, hle⟩ := mem_above.1 hw
    exact Finset.mem_image_of_mem (fun s => x q s l) (Finset.mem_filter.2 ⟨Finset.mem_univ _, hi.trans (e ▸ hle)⟩)
  obtain ⟨p, hp, ep⟩ := exists_taken_eq (f := fun s => x q s l) (i := s) (e ▸ hlt) (e ▸ hnb) hlane
  have hj : p * 128 + l.val < 512 := by have := l.isLt; omega
  have ec : cand q ⟨p * 128 + l.val, hj⟩ = f i := by
    rw [hcand]
    have h1 : (p * 128 + l.val) / 128 = p := by have := l.isLt; omega
    have h2 : (⟨(p * 128 + l.val) % 128, Nat.mod_lt _ (by decide)⟩ : Fin 128) = l := Fin.ext (by have := l.isLt; simp only; omega)
    simp only [h1, h2]
    exact ep.trans e
  have hpart : (above (cand q) (cand q ⟨p * 128 + l.val, hj⟩)).card ≤ 32 := by
    rw [ec]
    have h1 := Finset.card_le_card (Keeps.above_subset (s0 q) hnb)
    have h2 : (above f (f i)).card ≤ (above f (t k)).card :=
      Finset.card_le_card fun w hw => mem_above.2 ⟨(mem_above.1 hw).1, hi.trans (mem_above.1 hw).2⟩
    have h3 := hl.card_above_le (k := k) (by omega)
    omega
  obtain ⟨p', hp', ep'⟩ := exists_taken_eq (f := cand q) (ec ▸ hlt) (ec ▸ hnb) hpart
  obtain ⟨j, ej⟩ := hg' q ⟨p', hp'⟩
  exact ⟨j, ej.trans ((hown q ⟨p', hp'⟩).trans (ep'.trans ec))⟩

end Cert.TopList

end
-- ==== Proof.KernelIdealValue.lean ====
/-
# 01_k, `KernelIdeal`: the device's values at the extended reals

At the extended reals every round of the kernel is `TopList.below`: a pass takes, in each lane, the largest entry below
the lane's last (`passVal_apply`); a trip of an extraction takes the row's largest entry below the row's last
(`locAt_fst`, `finAt_fst`), and writes it in the list's next column. So the device's own list and the result are
`TopList.taken` of the candidates and of the four lists side by side (`ltC_apply`, `outC_apply`).
-/
module

public import proofs.«01_k».proof.Proof.KernelIdealLocal
public import proofs.«01_k».proof.Proof.TopList
public import Idealize.ShloMosaic.Lib.ValueIdx
public import Idealize.ShloMosaic.PureOps.Ideal.Laws
public import Idealize.ShloMosaic.Lib.WordCmp

@[expose] public section

noncomputable section

namespace Cert.KernelIdealProof

open Cert.KernelIdeal Cert.KernelIdeal.Gen Cert.TopList
open Idealize.ShloMosaic Idealize.ShloMosaic.TcCoe Idealize.ShloMosaic.ValueIdx Idealize.ShloMosaic.Pipeline

theorem ofBits_negInf : (Scalar.ofBits .f32 0xFF800000#32 : Ideal .f32) = (⊥ : EReal) := by
  show Ideal.ofBits .f32 0xFF800000#32 = ⊥
  simp [Ideal.ofBits, Ideal.ieee]

theorem ofBits_posInf : (Scalar.ofBits .f32 0x7F800000#32 : Ideal .f32) = (⊤ : EReal) := by
  show Ideal.ofBits .f32 0x7F800000#32 = ⊤
  simp [Ideal.ofBits, Ideal.ieee]

/-- An entry where it is below `p`, else the bottom. -/
def cut (a p : EReal) : EReal := if a < p then a else ⊥

theorem select_olt (a p : Ideal .f32) :
    Scalar.select (FloatOps.cmpf .olt a p) a (Scalar.ofBits .f32 0xFF800000#32 : Ideal .f32) = cut a p := by
  rw [ofBits_negInf]
  show Scalar.select (BitVec.ofBool (decide ((a : EReal) < p))) a ⊥ = cut a p
  unfold cut
  by_cases h : (a : EReal) < p
  · rw [if_pos h, decide_eq_true h]; rfl
  · rw [if_neg h, decide_eq_false h]; rfl

/-! ## A row's largest entry below its last -/

/-- The row maximum of the entries below the row's `p`, as the extractions spell it. -/
theorem rowRound_apply {N : ℕ} (v : FVec Ideal ⟨2, ![1024, N]⟩ .f32) (p : FVec Ideal S1024x1 .f32)
    (hb : S1024x1.Broadcasts ⟨2, ![1024, N]⟩) (hr : (⟨2, ![1024, N]⟩ : Shape).Reduces [1] S1024) (hc : S1024.ShapeCasts S1024x1)
    (hφ : FKind.Formats .f32) (hacc : (0xFF800000#32 : BitVec 32) = FKind.maximumf.neutral .f32 hφ) (r : Fin 1024) (z : Fin 1) :
    shapeCast S1024x1 (multiReduction .maximumf [1] S1024
        (select (cmpf .olt v (broadcastTo ⟨2, ![1024, N]⟩ p hb)) v (broadcast ⟨2, ![1024, N]⟩ (Scalar.ofBits .f32 0xFF800000#32 : Ideal .f32)))
        0xFF800000#32 hr hφ hacc) hc (ix2 (n0 := 1024) (n1 := 1) r z)
      = below (fun j => v (ix2 (n0 := 1024) (n1 := N) r j)) (p (ix2 (n0 := 1024) (n1 := 1) r 0)) := by
  rw [shapeCast_apply _ hc (ix2 (n0 := 1024) (n1 := 1) r z) (ix1 r) (by
    rw [Shape.rowMajor_val_one, Shape.rowMajor_val_two]
    have hz := z.isLt
    show r.val = r.val * 1 + z.val
    omega), Ideal.multiReduction_maximumf_single]
  show (Finset.univ : Finset (Fin N)).fold max (Scalar.ofBits .f32 0xFF800000#32 : Ideal .f32) _
    = (Finset.univ : Finset (Fin N)).fold max (⊥ : EReal) _
  refine congrArg₂ (fun b u => (Finset.univ : Finset (Fin N)).fold max (b : EReal) u) ofBits_negInf (funext fun (k : Fin N) => ?_)
  have hk : hr.lift (ix1 r) k = ix2 (n0 := 1024) (n1 := N) r k := by
    funext a
    match a with
    | ⟨0, _⟩ => rfl
    | ⟨1, _⟩ => rfl
  show (select _ v _) (hr.lift (ix1 r) k) = _
  rw [hk, select_apply, cmpf_apply, broadcast_apply, select_olt,
    broadcastTo_apply p hb (ix2 (n0 := 1024) (n1 := N) r k) (ix2 (n0 := 1024) (n1 := 1) r 0) (by
      intro a
      match a with
      | ⟨0, _⟩ => rfl
      | ⟨1, _⟩ => rfl)]
  rfl

/-- The list's column `n` is written with the value just taken, the others stay. -/
theorem listWrite_apply (n : ℕ) (hn : n < 32) (it : IVec S1024x32 32)
    (hit : it = iota .tc S1024x32 32 [1] iota_S1024x32_d1_w32) (p : FVec Ideal S1024x1 .f32) (old : FVec Ideal S1024x32 .f32)
    (h1 : S1024x1.ShapeCasts S1024x1) (h2 : S1024x1.Broadcasts S1024x32) (r : Fin 1024) (k : Fin 32) :
    select (cmpi .eq it (broadcast S1024x32 (Scf.iv 0#32 1#32 n))) (broadcastTo S1024x32 (shapeCast S1024x1 p h1) h2) old
        (ix2 (n0 := 1024) (n1 := 32) r k)
      = if k.val = n then p (ix2 (n0 := 1024) (n1 := 1) r 0) else old (ix2 (n0 := 1024) (n1 := 32) r k) := by
  subst hit
  rw [select_apply, shapeCast_self, broadcastTo_apply p h2 (ix2 (n0 := 1024) (n1 := 32) r k) (ix2 (n0 := 1024) (n1 := 1) r 0) (by
      intro a
      match a with
      | ⟨0, _⟩ => rfl
      | ⟨1, _⟩ => rfl)]
  show Scalar.select (IntOp.cmpi .eq ((iota .tc S1024x32 32 [1] iota_S1024x32_d1_w32) (ix2 (n0 := 1024) (n1 := 32) r k)) (Scf.iv 0#32 1#32 n)) _ _ = _
  rw [iota_single_apply]
  have hiv : Scf.iv 0#32 1#32 n = BitVec.ofNat 32 n := by
    simp [Scf.iv]
  rw [hiv]
  show Scalar.select (IntOp.cmpi .eq (BitVec.ofNat 32 k.val) (BitVec.ofNat 32 n)) _ _ = _
  have hkn : (BitVec.ofNat 32 k.val = BitVec.ofNat 32 n) ↔ k.val = n := by
    have := k.isLt
    constructor
    · intro e
      have := congrArg BitVec.toNat e
      simp only [BitVec.toNat_ofNat] at this
      omega
    · intro e; rw [e]
  by_cases h : k.val = n
  · rw [if_pos h, h]; simp [IntOp.cmpi, Scalar.select]
  · rw [if_neg h]
    have hf : (BitVec.ofNat 32 k.val == BitVec.ofNat 32 n) = false := beq_eq_false_iff_ne.mpr fun e => h (hkn.1 e)
    simp [IntOp.cmpi, Scalar.select, hf]

/-! ## The passes -/

/-- Lane `l` of row `r` of a device's half: the entry in slab `s`. -/
def laneEntry (d : Dev nD) (x : Vec Ideal S1024x8192 .f32) (r : Fin 1024) (l : Fin 128) (s : Fin 32) : EReal :=
  x (ix2 (n0 := 1024) (n1 := 8192) r ⟨4096 * (d.val % 2) + 128 * s.val + l.val, by omega⟩)

theorem slab_apply (d : Dev nD) (x : Vec Ideal S1024x8192 .f32) (k : Fin k0_t2_loop.trips) (j : Fin 8) (r : Fin 1024) (l : Fin 128)
    (s : Fin 32) (hs : s.val = 8 * k.val + j.val) :
    slab d x k j (ix2 (n0 := 1024) (n1 := 128) r l) = laneEntry d x r l s := by
  refine congrArg x (funext fun a => Fin.ext ?_)
  show ((Rect.unit (s := S1024x8192) (k0_off1 d k (BitVec.ofNat 32 j.val)) S1024x128.size (k0_off1_inb d k j)).emb
    (ix2 (n0 := 1024) (n1 := 128) r l) a : ℕ) = _
  rw [Rect.emb_apply]
  have e := congrFun (k0_off1_eq d k j) a
  match a with
  | ⟨0, _⟩ =>
    show k0_off1 d k (BitVec.ofNat 32 j.val) 0 + 1 * r.val = r.val
    rw [show k0_off1 d k (BitVec.ofNat 32 j.val) 0 = 0 from e]; omega
  | ⟨1, _⟩ =>
    show k0_off1 d k (BitVec.ofNat 32 j.val) 1 + 1 * l.val = 4096 * (d.val % 2) + 128 * s.val + l.val
    rw [show k0_off1 d k (BitVec.ofNat 32 j.val) 1 = 4096 * (d.val % 2) + 1024 * k.val + 128 * j.val from e]; omega

theorem laneStep_apply (d : Dev nD) (x : Vec Ideal S1024x8192 .f32) (p : FVec Ideal S1024x128 .f32) (k : Fin k0_t2_loop.trips)
    (acc : FVec Ideal S1024x128 .f32) (i : S1024x128.Idx) :
    laneStep d x p k acc i = max (max (max (max (max (max (max (max (acc i) (cut (slab d x k 0 i) (p i))) (cut (slab d x k 1 i) (p i)))
      (cut (slab d x k 2 i) (p i))) (cut (slab d x k 3 i) (p i))) (cut (slab d x k 4 i) (p i))) (cut (slab d x k 5 i) (p i)))
      (cut (slab d x k 6 i) (p i))) (cut (slab d x k 7 i) (p i)) := by
  unfold laneStep k0_pay10 k0_pay7 k0_pay5 k0_pay6
  simp only [shapeCast_self, maximumf_apply, select_apply, cmpf_apply, broadcast_apply, select_olt]

/-- The cut entry of slab `s`, the bottom past the last slab. -/
def cutAt (d : Dev nD) (x : Vec Ideal S1024x8192 .f32) (r : Fin 1024) (l : Fin 128) (p : EReal) (s : ℕ) : EReal :=
  if h : s < 32 then cut (laneEntry d x r l ⟨s, h⟩) p else ⊥

theorem laneAt_apply (d : Dev nD) (x : Vec Ideal S1024x8192 .f32) (p : FVec Ideal S1024x128 .f32) (r : Fin 1024) (l : Fin 128) :
    ∀ n ≤ 4, laneAt d x p n (ix2 (n0 := 1024) (n1 := 128) r l)
      = (Finset.range (8 * n)).sup (cutAt d x r l (p (ix2 (n0 := 1024) (n1 := 128) r l)))
  | 0, _ => by
    show (Scalar.ofBits .f32 0xFF800000#32 : Ideal .f32) = _
    rw [ofBits_negInf]; rfl
  | n + 1, h => by
    have hn : n < k0_t2_loop.trips := by rw [trips2]; exact h
    have hs : ∀ j : Fin 8, slab d x ⟨n, hn⟩ j (ix2 (n0 := 1024) (n1 := 128) r l) = laneEntry d x r l ⟨8 * n + j.val, by omega⟩ :=
      fun j => slab_apply d x ⟨n, hn⟩ j r l _ rfl
    have hc : ∀ j : Fin 8, cut (slab d x ⟨n, hn⟩ j (ix2 (n0 := 1024) (n1 := 128) r l)) (p (ix2 (n0 := 1024) (n1 := 128) r l))
        = cutAt d x r l (p (ix2 (n0 := 1024) (n1 := 128) r l)) (8 * n + j.val) := fun j => by
      rw [hs j, cutAt, dif_pos]
    rw [laneAt, dif_pos hn, laneStep_apply, laneAt_apply d x p r l n (by omega), hc 0, hc 1, hc 2, hc 3, hc 4, hc 5, hc 6, hc 7]
    rw [show 8 * (n + 1) = 8 * n + 1 + 1 + 1 + 1 + 1 + 1 + 1 + 1 from by ring]
    simp only [Finset.range_add_one, Finset.sup_insert]
    generalize cutAt d x r l (p (ix2 (n0 := 1024) (n1 := 128) r l)) = G
    rw [max_comm (G (8 * n + 1 + 1 + 1 + 1 + 1 + 1 + 1)), max_comm (G (8 * n + 1 + 1 + 1 + 1 + 1 + 1)), max_comm (G (8 * n + 1 + 1 + 1 + 1 + 1)),
      max_comm (G (8 * n + 1 + 1 + 1 + 1)), max_comm (G (8 * n + 1 + 1 + 1)), max_comm (G (8 * n + 1 + 1)), max_comm (G (8 * n + 1)), max_comm (G (8 * n))]
    rfl

/-- What a pass carries out of a lane: what is taken of the lane's entries. -/
theorem passVal_apply (d : Dev nD) (x : Vec Ideal S1024x8192 .f32) (r : Fin 1024) (l : Fin 128) :
    ∀ n, passVal d x n (ix2 (n0 := 1024) (n1 := 128) r l) = taken (laneEntry d x r l) n
  | 0 => by
    show (Scalar.ofBits .f32 0x7F800000#32 : Ideal .f32) = ⊤
    exact ofBits_posInf
  | n + 1 => by
    rw [passVal, trips2, laneAt_apply d x _ r l 4 le_rfl, passVal_apply d x r l n]
    show _ = (Finset.univ : Finset (Fin 32)).sup fun s => cut (laneEntry d x r l s) (taken (laneEntry d x r l) n)
    refine le_antisymm (Finset.sup_le fun s hs => ?_) (Finset.sup_le fun s _ => ?_)
    · have h : s < 32 := Finset.mem_range.1 hs
      rw [cutAt, dif_pos h]
      exact Finset.le_sup (f := fun s => cut (laneEntry d x r l s) (taken (laneEntry d x r l) n)) (Finset.mem_univ _)
    · refine le_trans (le_of_eq ?_) (Finset.le_sup (Finset.mem_range.2 s.isLt))
      rw [cutAt, dif_pos s.isLt]

/-- A candidate: what its pass found in its lane. -/
theorem candC_apply (d : Dev nD) (x : Vec Ideal S1024x8192 .f32) (r : Fin 1024) (j : Fin 512) :
    candC d x (ix2 (n0 := 1024) (n1 := 512) r j)
      = taken (laneEntry d x r ⟨j.val % 128, Nat.mod_lt _ (by decide)⟩) (j.val / 128 + 1) :=
  passVal_apply d x r _ _

/-! ## The two extractions -/

theorem pay14_apply (v : Vec Ideal S1024x512 .f32) (p : FVec Ideal S1024x1 .f32) (r : Fin 1024) (z : Fin 1) :
    k0_pay14 v p (ix2 (n0 := 1024) (n1 := 1) r z) = below (fun j => v (ix2 (n0 := 1024) (n1 := 512) r j)) (p (ix2 (n0 := 1024) (n1 := 1) r 0)) := by
  unfold k0_pay14
  exact rowRound_apply v p _ _ _ _ _ r z

theorem locAt_next (v : Vec Ideal S1024x512 .f32) (n : ℕ) (hn : n < 32) :
    (locAt v (n + 1)).1 = k0_pay14 v (locAt v n).1
      ∧ (locAt v (n + 1)).2 = k0_pay15 v ⟨n, by rw [trips3]; exact hn⟩ (locAt v n).1 (locAt v n).2 := by
  have h : n < k0_t3_loop.trips := by rw [trips3]; exact hn
  constructor <;> rw [locAt, dif_pos h]

theorem locAt_fst (v : Vec Ideal S1024x512 .f32) (r : Fin 1024) (z : Fin 1) :
    ∀ n ≤ 32, (locAt v n).1 (ix2 (n0 := 1024) (n1 := 1) r z) = taken (fun j => v (ix2 (n0 := 1024) (n1 := 512) r j)) n
  | 0, _ => by
    show (Scalar.ofBits .f32 0x7F800000#32 : Ideal .f32) = ⊤
    exact ofBits_posInf
  | n + 1, h => by
    rw [(locAt_next v n h).1, pay14_apply, locAt_fst v r 0 n (by omega)]; rfl

theorem locAt_snd (v : Vec Ideal S1024x512 .f32) (r : Fin 1024) (k : Fin 32) :
    ∀ n ≤ 32, k.val < n → (locAt v n).2 (ix2 (n0 := 1024) (n1 := 32) r k) = taken (fun j => v (ix2 (n0 := 1024) (n1 := 512) r j)) (k.val + 1)
  | 0, _, h => absurd h (by omega)
  | n + 1, h, hk => by
    rw [(locAt_next v n h).2]
    unfold k0_pay15
    refine (listWrite_apply n h _ rfl (k0_pay14 v (locAt v n).1) (locAt v n).2 _ _ r k).trans ?_
    split
    · rename_i hkn
      rw [hkn, ← (locAt_next v n h).1]
      exact locAt_fst v r 0 (n + 1) h
    · exact locAt_snd v r k n (by omega) (by omega)

/-- The device's own list: what is taken of the candidates. -/
theorem ltC_apply (d : Dev nD) (x : Vec Ideal S1024x8192 .f32) (r : Fin 1024) (k : Fin 32) :
    ltC d x (ix2 (n0 := 1024) (n1 := 32) r k) = taken (fun j => candC d x (ix2 (n0 := 1024) (n1 := 512) r j)) (k.val + 1) := by
  unfold ltC k0_pay16
  rw [shapeCast_self, trips3]
  exact locAt_snd _ r k 32 le_rfl k.isLt

/-- The four lists side by side. -/
def lists (a b e g : Vec Ideal S1024x32 .f32) : FVec Ideal S1024x128 .f32 :=
  concatenate S1024x128 1 [⟨S1024x32, a⟩, ⟨S1024x32, b⟩, ⟨S1024x32, e⟩, ⟨S1024x32, g⟩] concatenates_S1024x32_S1024x32_S1024x32_S1024x32_S1024x128_d1

theorem pay3_apply (a b e g : Vec Ideal S1024x32 .f32) (p : FVec Ideal S1024x1 .f32) (r : Fin 1024) (z : Fin 1) :
    k0_pay3 a b e g p (ix2 (n0 := 1024) (n1 := 1) r z)
      = below (fun j => lists a b e g (ix2 (n0 := 1024) (n1 := 128) r j)) (p (ix2 (n0 := 1024) (n1 := 1) r 0)) := by
  unfold k0_pay3
  exact rowRound_apply (lists a b e g) p _ _ _ _ _ r z

theorem finAt_next (a b e g : Vec Ideal S1024x32 .f32) (n : ℕ) (hn : n < 32) :
    (finAt a b e g (n + 1)).1 = k0_pay3 a b e g (finAt a b e g n).1
      ∧ (finAt a b e g (n + 1)).2 = k0_pay4 (iota .tc S1024x32 32 [1] iota_S1024x32_d1_w32) a b e g ⟨n, by rw [trips4]; exact hn⟩
          (finAt a b e g n).1 (finAt a b e g n).2 := by
  have h : n < k0_t4_loop.trips := by rw [trips4]; exact hn
  constructor <;> rw [finAt, dif_pos h]

theorem finAt_fst (a b e g : Vec Ideal S1024x32 .f32) (r : Fin 1024) (z : Fin 1) :
    ∀ n ≤ 32, (finAt a b e g n).1 (ix2 (n0 := 1024) (n1 := 1) r z) = taken (fun j => lists a b e g (ix2 (n0 := 1024) (n1 := 128) r j)) n
  | 0, _ => by
    show (Scalar.ofBits .f32 0x7F800000#32 : Ideal .f32) = ⊤
    exact ofBits_posInf
  | n + 1, h => by
    rw [(finAt_next a b e g n h).1, pay3_apply, finAt_fst a b e g r 0 n (by omega)]; rfl

theorem finAt_snd (a b e g : Vec Ideal S1024x32 .f32) (r : Fin 1024) (k : Fin 32) :
    ∀ n ≤ 32, k.val < n → (finAt a b e g n).2 (ix2 (n0 := 1024) (n1 := 32) r k)
      = taken (fun j => lists a b e g (ix2 (n0 := 1024) (n1 := 128) r j)) (k.val + 1)
  | 0, _, h => absurd h (by omega)
  | n + 1, h, hk => by
    rw [(finAt_next a b e g n h).2]
    unfold k0_pay4
    refine (listWrite_apply n h _ rfl (k0_pay3 a b e g (finAt a b e g n).1) (finAt a b e g n).2 _ _ r k).trans ?_
    split
    · rename_i hkn
      rw [hkn, ← (finAt_next a b e g n h).1]
      exact finAt_fst a b e g r 0 (n + 1) h
    · exact finAt_snd a b e g r k n (by omega) (by omega)

/-- The result: what is taken of the four lists. -/
theorem outC_apply (a b e g : Vec Ideal S1024x32 .f32) (r : Fin 1024) (k : Fin 32) :
    outC a b e g (ix2 (n0 := 1024) (n1 := 32) r k) = taken (fun j => lists a b e g (ix2 (n0 := 1024) (n1 := 128) r j)) (k.val + 1) := by
  unfold outC
  rw [trips4]
  exact finAt_snd a b e g r k 32 le_rfl k.isLt

/-- The four lists side by side hold the entries of the four. -/
theorem lists_apply (a b e g : Vec Ideal S1024x32 .f32) (r : Fin 1024) (q : Fin 4) (p : Fin 32) :
    lists a b e g (ix2 (n0 := 1024) (n1 := 128) r ⟨32 * q.val + p.val, by omega⟩)
      = (![a, b, e, g] q) (ix2 (n0 := 1024) (n1 := 32) r p) := by
  have hoff : ∀ (q : Fin 4) (b : Fin 2), b ≠ 1 → (ix2 (n0 := 1024) (n1 := 32) r p b).val
      = (ix2 (n0 := 1024) (n1 := 128) r ⟨32 * q.val + p.val, by omega⟩ b).val := by
    intro q b hb
    match b with
    | ⟨0, _⟩ => rfl
    | ⟨1, _⟩ => exact absurd rfl hb
  unfold lists
  match q with
  | ⟨0, _⟩ => exact concatenate_apply_piece (t := S1024x128) 1 _ _ _ 0 (by show 0 < 4; omega) S1024x32 a rfl rfl 0 rfl (ix2 (n0 := 1024) (n1 := 32) r p) (hoff 0) rfl
  | ⟨1, _⟩ => exact concatenate_apply_piece (t := S1024x128) 1 _ _ _ 1 (by show 1 < 4; omega) S1024x32 b rfl rfl 32 rfl (ix2 (n0 := 1024) (n1 := 32) r p) (hoff 1) rfl
  | ⟨2, _⟩ => exact concatenate_apply_piece (t := S1024x128) 1 _ _ _ 2 (by show 2 < 4; omega) S1024x32 e rfl rfl 64 rfl (ix2 (n0 := 1024) (n1 := 32) r p) (hoff 2) rfl
  | ⟨3, _⟩ => exact concatenate_apply_piece (t := S1024x128) 1 _ _ _ 3 (by show 3 < 4; omega) S1024x32 g rfl rfl 96 rfl (ix2 (n0 := 1024) (n1 := 32) r p) (hoff 3) rfl

end Cert.KernelIdealProof

end
-- ==== Proof.Ranked.lean ====
/-
# A row in falling order

`order x r` is the stable sort of row `r` of a 1024 by 16384 array by falling value, `ranked x r n` the row's `n`-th
entry in that order; so the ranked entries are the row's list from the top (`ranked_lists`, in the sense of
`TopList.Lists`). A two-operand sort of the row by any comparator that says "the other entry is less" permutes by `order`
(`sort_fst`, `sort_snd`).
-/
module

public import proofs.«01_k».proof.Proof.TopList
public import Idealize.ShloMosaic.Lib.ValueIdx
public import Idealize.ShloMosaic.Lib.SortFacts

@[expose] public section

noncomputable section

namespace Cert.Ranked

open Cert.TopList
open Idealize.ShloMosaic Idealize.ShloMosaic.ValueIdx

/-- The array's shape. -/
abbrev SX : Shape := ⟨2, ![1024, 16384]⟩

/-- An entry of row `r`. -/
def entry (x : FVec Ideal SX .f32) (r : Fin 1024) (k : Fin 16384) : EReal := x (ix2 (n0 := 1024) (n1 := 16384) r k)

/-- The columns of row `r` by falling value. -/
def order (x : FVec Ideal SX .f32) (r : Fin 1024) : Fin 16384 → Fin 16384 :=
  sortedFrom fun k k' => decide (entry x r k' < entry x r k)

/-- The row's `n`-th entry by falling value. -/
def ranked (x : FVec Ideal SX .f32) (r : Fin 1024) (n : ℕ) : EReal :=
  if h : n < 16384 then entry x r (order x r ⟨n, h⟩) else ⊥

theorem ranked_eq (x : FVec Ideal SX .f32) (r : Fin 1024) (k : Fin 16384) : ranked x r k.val = entry x r (order x r k) := by
  rw [ranked, dif_pos k.isLt]

theorem entry_order_le (x : FVec Ideal SX .f32) (r : Fin 1024) (i j : Fin 16384) (h : i ≤ j) :
    entry x r (order x r j) ≤ entry x r (order x r i) := by
  rcases h.lt_or_eq with h | h
  · have := sortedFrom_noInversion (fun k k' => decide (entry x r k' < entry x r k)) (fun k k' => decide (entry x r k' < entry x r k))
      (fun a b hab => decide_eq_false (not_lt.2 (of_decide_eq_true hab).le)) (fun _ _ h => h)
      (fun a b c hab hbc => decide_eq_false (not_lt.2 (le_trans (not_lt.1 (of_decide_eq_false hab)) (not_lt.1 (of_decide_eq_false hbc)))))
      i j h
    exact not_lt.1 (of_decide_eq_false this)
  · rw [h]

theorem ranked_lists (x : FVec Ideal SX .f32) (r : Fin 1024) : Lists (entry x r) (ranked x r) 16384 where
  mem j hj := ⟨_, (ranked_eq x r ⟨j, hj⟩).symm⟩
  top i := by
    obtain ⟨k, hk⟩ := sortedFrom_surjective (fun k k' => decide (entry x r k' < entry x r k)) i
    have h0 : ranked x r 0 = entry x r (order x r ⟨0, by decide⟩) := ranked_eq x r ⟨0, by decide⟩
    rw [h0, ← hk]
    exact entry_order_le x r _ k (Nat.zero_le _)
  next j hj i hi := by
    obtain ⟨k, hk⟩ := sortedFrom_surjective (fun k k' => decide (entry x r k' < entry x r k)) i
    have hk' : order x r k = i := hk
    rw [← hk'] at hi ⊢
    have h0 : ranked x r j = entry x r (order x r ⟨j, by omega⟩) := ranked_eq x r ⟨j, by omega⟩
    have h1 : ranked x r (j + 1) = entry x r (order x r ⟨j + 1, hj⟩) := ranked_eq x r ⟨j + 1, hj⟩
    rw [h0] at hi
    rw [h1]
    refine entry_order_le x r _ k ?_
    have : ¬ k ≤ ⟨j, by omega⟩ := fun hle => absurd (entry_order_le x r k _ hle) (not_le.2 hi)
    have hlt : j < k.val := not_le.1 this
    exact hlt
  count j hj := by
    have h0 : ranked x r j = entry x r (order x r ⟨j, hj⟩) := ranked_eq x r ⟨j, hj⟩
    have hsub : (Finset.univ.filter fun i => ranked x r j < entry x r i) ⊆ (Finset.univ : Finset (Fin j)).image fun a => order x r ⟨a.val, by omega⟩ := by
      intro i hi
      obtain ⟨k, hk⟩ := sortedFrom_surjective (fun k k' => decide (entry x r k' < entry x r k)) i
      have hk' : order x r k = i := hk
      have hlt := (Finset.mem_filter.1 hi).2
      rw [h0, ← hk'] at hlt
      have hkj : k.val < j := by
        by_contra hge
        exact absurd (entry_order_le x r ⟨j, hj⟩ k (not_lt.1 hge)) (not_le.2 hlt)
      exact Finset.mem_image.2 ⟨⟨k.val, hkj⟩, Finset.mem_univ _, hk'⟩
    exact (Finset.card_le_card hsub).trans (Finset.card_image_le.trans (by rw [Finset.card_univ, Fintype.card_fin]))

/-- Row `r`'s index at another column. -/
theorem along_eq (r : Fin 1024) (j k : Fin 16384) :
    (ix2 (n0 := 1024) (n1 := 16384) r j : SX.Idx).along (1 : Fin 2) k = ix2 (n0 := 1024) (n1 := 16384) r k := by
  funext a
  match a with
  | ⟨0, _⟩ => rfl
  | ⟨1, _⟩ => rfl

section Sorting

variable {α β : Type} (cmp : α × β → α × β → BitVec 1) (y : SX.Idx → α) (w : SX.Idx → β) (x : FVec Ideal SX .f32)
  (h : ∀ r k k', (cmp (y (ix2 (n0 := 1024) (n1 := 16384) r k), w (ix2 (n0 := 1024) (n1 := 16384) r k))
      (y (ix2 (n0 := 1024) (n1 := 16384) r k'), w (ix2 (n0 := 1024) (n1 := 16384) r k')) == 1#1) = decide (entry x r k' < entry x r k))

include h

theorem sort_pos (r : Fin 1024) (j : Fin 16384) :
    sortedFrom (fun k k' : Fin 16384 => cmp (y ((ix2 (n0 := 1024) (n1 := 16384) r j : SX.Idx).along (1 : Fin 2) k), w ((ix2 (n0 := 1024) (n1 := 16384) r j : SX.Idx).along (1 : Fin 2) k))
      (y ((ix2 (n0 := 1024) (n1 := 16384) r j : SX.Idx).along (1 : Fin 2) k'), w ((ix2 (n0 := 1024) (n1 := 16384) r j : SX.Idx).along (1 : Fin 2) k')) == 1#1) j
      = order x r j := by
  refine congrArg (fun R => sortedFrom R j) (funext fun k => funext fun k' => ?_)
  rw [along_eq, along_eq]
  exact h r k k'

theorem sort_fst (r : Fin 1024) (j : Fin 16384) :
    (Host.sort2 SX 1 cmp y w).1 (ix2 (n0 := 1024) (n1 := 16384) r j) = y (ix2 (n0 := 1024) (n1 := 16384) r (order x r j)) := by
  have e := sort_pos cmp y w x h r j
  rw [← along_eq r j (order x r j), ← e]
  unfold Host.sort2
  rw [dif_pos (show 1 < SX.rank by decide)]
  rfl

theorem sort_snd (r : Fin 1024) (j : Fin 16384) :
    (Host.sort2 SX 1 cmp y w).2 (ix2 (n0 := 1024) (n1 := 16384) r j) = w (ix2 (n0 := 1024) (n1 := 16384) r (order x r j)) := by
  have e := sort_pos cmp y w x h r j
  rw [← along_eq r j (order x r j), ← e]
  unfold Host.sort2
  rw [dif_pos (show 1 < SX.rank by decide)]
  rfl

end Sorting

end Cert.Ranked

end
-- ==== Proof.ReferenceValue.lean ====
/-
# 01_k, `ReferenceIdeal`: the reference's values

The reference sorts the negated rows with their columns, keeps the first 32 columns of each row and reads the row there:
at the extended reals its entry `(r, k)` is the row's `k`-th entry by falling value (`result_apply`). The columns are in
range, so neither the wrap of a negative column nor the fill of one out of range changes anything (`take_apply`).
-/
module

public import proofs.«01_k».proof.Proof.Ranked
public import proofs.«01_k».proof.Proof.Gen.ReferenceIdeal
public import proofs.«01_k».proof.Proof.Gen.ReferenceIdeal.Run
public import Idealize.ShloMosaic.Lib.ReduceAll
public import Idealize.ShloMosaic.Lib.Pipeline.Value

@[expose] public section

noncomputable section

namespace Cert.ReferenceIdealProof

open Cert.ReferenceIdeal Cert.ReferenceIdeal.Gen Cert.Ranked
open Idealize.SL.Sem Idealize.ShloMosaic Idealize.ShloMosaic.TcCoe Idealize.ShloMosaic.ValueIdx Idealize.ShloMosaic.Pipeline

theorem ofBits_zero : (FloatOps.ofBits .f32 0x00000000#32 : Ideal .f32) = (0 : EReal) := by
  show Ideal.ofBits .f32 0x00000000#32 = 0
  simp [Ideal.ofBits, Ideal.ieee]

/-- The sort's comparator on negated entries: the second is less. -/
theorem comparator_neg (a b : EReal) (p q : BitVec 32) :
    (comparator_f32_i32_d1 (F := Ideal) ((-a : EReal), p) ((-b : EReal), q) == 1#1) = decide (b < a) := by
  have hsel : ∀ c : EReal, Scalar.select (FloatOps.cmpf (F := Ideal) (φ := .f32) .une c c) (FloatOps.ofBits .f32 0x7FC00000#32 : Ideal .f32)
      (Scalar.select (FloatOps.cmpf (F := Ideal) (φ := .f32) .oeq c (FloatOps.ofBits .f32 0x00000000#32 : Ideal .f32))
        (FloatOps.ofBits .f32 0x00000000#32 : Ideal .f32) c) = c := by
    intro c
    rw [ofBits_zero]
    show Scalar.select (BitVec.ofBool (decide (c ≠ c))) _ (Scalar.select (BitVec.ofBool (decide (c = 0))) (0 : EReal) c) = c
    rw [decide_eq_false (by simp)]
    show Scalar.select (BitVec.ofBool (decide (c = 0))) (0 : EReal) c = c
    by_cases h : c = 0
    · rw [decide_eq_true h, h]; rfl
    · rw [decide_eq_false h]; rfl
  have e : comparator_f32_i32_d1 (F := Ideal) ((-a : EReal), p) ((-b : EReal), q) = BitVec.ofBool (decide ((-a : EReal) < -b)) := by
    unfold comparator_f32_i32_d1
    simp only
    rw [hsel, hsel]
    rfl
  rw [e]
  by_cases h : b < a
  · rw [decide_eq_true (EReal.neg_lt_neg_iff.2 h), decide_eq_true h]; rfl
  · rw [decide_eq_false fun hn => h (EReal.neg_lt_neg_iff.1 hn), decide_eq_false h]; rfl

/-- The columns the reference reads. -/
def columns (x : FVec Ideal S1024x16384 .f32) : IVec S1024x32 32 :=
  extractStridedSlice S1024x32 ![0, 0] ((Host.sort2 S1024x16384 1 (comparator_f32_i32_d1 (F := Ideal)) (Host.negf x) (iotaInDim S1024x16384 32 1)).2)
    slices_S1024x16384_S1024x32_0_0

theorem columns_apply (x : FVec Ideal S1024x16384 .f32) (r : Fin 1024) (k : Fin 32) :
    columns x (ix2 (n0 := 1024) (n1 := 32) r k) = BitVec.ofNat 32 (order x r ⟨k.val, by omega⟩).val := by
  unfold columns
  rw [extractStridedSlice_apply ![0, 0] _ slices_S1024x16384_S1024x32_0_0 (ix2 (n0 := 1024) (n1 := 32) r k)
    (ix2 (n0 := 1024) (n1 := 16384) r ⟨k.val, by omega⟩) (by
      intro a
      match a with
      | ⟨0, _⟩ => show r.val = 0 + r.val; omega
      | ⟨1, _⟩ => show k.val = 0 + k.val; omega)]
  exact sort_snd _ _ _ x (fun r k k' => comparator_neg _ _ _ _) r _

/-- The columns wrapped, as the reference's read prepares them. -/
def wrapped (idx : IVec S1024x32 32) : IVec S1024x32x1 32 :=
  shapeCast S1024x32x1 (select (cmpi .slt idx (broadcastInDim S1024x32 ![] bcast_S_S1024x32 (constantI S_ 32 0#32)))
    (addi idx (broadcastInDim S1024x32 ![] bcast_S_S1024x32 (constantI S_ 32 16384#32))) idx) shapeCasts_S1024x32_S1024x32x1

theorem toInt_column (n : Fin 16384) : (BitVec.ofNat 32 n.val).toInt = n.val := by
  have := n.isLt
  rw [BitVec.toInt_eq_toNat_cond, BitVec.toNat_ofNat]
  rw [Nat.mod_eq_of_lt (by omega)]
  rw [if_pos (by omega)]

theorem wrapped_apply (idx : IVec S1024x32 32) (r : Fin 1024) (k : Fin 32) (z : Fin 1) (p : Fin 16384)
    (h : idx (ix2 (n0 := 1024) (n1 := 32) r k) = BitVec.ofNat 32 p.val) :
    wrapped idx (ix3 (n0 := 1024) (n1 := 32) (n2 := 1) r k z) = BitVec.ofNat 32 p.val := by
  unfold wrapped
  rw [shapeCast_apply _ shapeCasts_S1024x32_S1024x32x1 (ix3 (n0 := 1024) (n1 := 32) (n2 := 1) r k z) (ix2 (n0 := 1024) (n1 := 32) r k) (by
    rw [Shape.rowMajor_val_two, Shape.rowMajor_val_three]
    have hz := z.isLt
    show r.val * 32 + k.val = (r.val * 32 + k.val) * 1 + z.val
    omega), select_apply]
  show Scalar.select (BitVec.ofBool ((idx (ix2 (n0 := 1024) (n1 := 32) r k)).slt 0#32)) _ _ = _
  rw [h]
  have hf : (BitVec.ofNat 32 p.val).slt 0#32 = false := by
    rw [BitVec.slt, toInt_column]
    simp
  rw [hf]
  exact select_zero _ _

/-- The read of a row at columns in range. -/
theorem take_apply (x : FVec Ideal S1024x16384 .f32) (idx : IVec S1024x32 32) (p : Fin 1024 → Fin 32 → Fin 16384)
    (h : ∀ r k, idx (ix2 (n0 := 1024) (n1 := 32) r k) = BitVec.ofNat 32 (p r k).val) (r : Fin 1024) (k : Fin 32) (fill : FVec Ideal S1024x32 .f32) :
    select (Host.reduce IntOp.andi (andi (cmpi .sge (wrapped idx) (broadcastInDim S1024x32x1 ![] bcast_S_S1024x32x1 (constantI S_ 32 0#32)))
        (cmpi .sle (wrapped idx) (broadcastInDim S1024x32x1 ![0, 1, 2] bcast_S1x1x1_S1024x32x1_0_1_2 (broadcastInDim S1x1x1 ![2] bcast_S1_S1x1x1_2 (constantI S1 32 16383#32)))))
        (constantI S_ 1 1#1) reducesTo_S1024x32x1_S1024x32_d2 h_S_)
      (Host.gather gather_S1024x16384_S1024x32x1_S1024x32_n_1_0_0_1_2_11 x (wrapped idx)) fill (ix2 (n0 := 1024) (n1 := 32) r k)
      = x (ix2 (n0 := 1024) (n1 := 16384) r (p r k)) := by
  rw [select_apply, Host.reduce_andi_one, select_one]
  · unfold Host.gather
    refine congrArg x (funext fun a => Fin.ext ?_)
    show (gather_S1024x16384_S1024x32x1_S1024x32_n_1_0_0_1_2_11).start (ix2 (n0 := 1024) (n1 := 32) r k) (wrapped idx) a
      + (gather_S1024x16384_S1024x32x1_S1024x32_n_1_0_0_1_2_11).batchCoord (ix2 (n0 := 1024) (n1 := 32) r k) a
      + (gather_S1024x16384_S1024x32x1_S1024x32_n_1_0_0_1_2_11).offCoord (ix2 (n0 := 1024) (n1 := 32) r k) a = _
    have h01 : a = 0 ∨ a = 1 := by
      match a with
      | ⟨0, _⟩ => exact Or.inl rfl
      | ⟨1, _⟩ => exact Or.inr rfl
    rcases h01 with rfl | rfl
    · rw [GatherDims.start_batching _ _ _ _ (List.mem_singleton.mpr rfl),
        GatherDims.offCoord_eq_zero _ _ _ (fun h => ((GatherDims.mem_sKept _ _).mp h).2 (List.mem_singleton.mpr rfl))]
      rw [Nat.zero_add, Nat.add_zero]
      unfold GatherDims.batchCoord
      rw [dif_pos (show (0 : Fin 2) ∈ gather_S1024x16384_S1024x32x1_S1024x32_n_1_0_0_1_2_11.operandBatchingDims from List.mem_singleton.mpr rfl)]
      rfl
    · rw [GatherDims.batchCoord_eq_zero _ _ _ (fun h => absurd (List.mem_singleton.mp h) (by decide)),
        GatherDims.offCoord_eq_zero _ _ _ (fun h => ((GatherDims.mem_sKept _ _).mp h).1 (List.mem_singleton.mpr rfl))]
      rw [Nat.add_zero]
      unfold GatherDims.start
      rw [dif_pos (show (1 : Fin 2) ∈ gather_S1024x16384_S1024x32x1_S1024x32_n_1_0_0_1_2_11.startIndexMap from List.mem_singleton.mpr rfl)]
      have hsi : ∀ c : Fin gather_S1024x16384_S1024x32x1_S1024x32_n_1_0_0_1_2_11.startIndexMap.length, gather_S1024x16384_S1024x32x1_S1024x32_n_1_0_0_1_2_11.siIdx (ix2 (n0 := 1024) (n1 := 32) r k) c
          = ix3 (n0 := 1024) (n1 := 32) (n2 := 1) r k 0 := by
        intro c
        have hc : c.val < 1 := c.isLt
        funext b
        refine Fin.ext ?_
        match b with
        | ⟨0, _⟩ => rfl
        | ⟨1, _⟩ => rfl
        | ⟨2, _⟩ => show c.val = 0; omega
      rw [hsi, wrapped_apply idx r k 0 (p r k) (h r k), toInt_column]
      show min (p r k).val (16384 - 1) = (p r k).val
      have := (p r k).isLt
      omega
  · rfl
  · intro i
    rw [eq_ix3 i]
    have hw := wrapped_apply idx (i 0) (i 1) (i 2) _ (h (i 0) (i 1))
    show IntOp.andi (BitVec.ofBool ((0#32 : BitVec 32).sle (wrapped idx (ix3 (n0 := 1024) (n1 := 32) (n2 := 1) (i 0) (i 1) (i 2)))))
      (BitVec.ofBool ((wrapped idx (ix3 (n0 := 1024) (n1 := 32) (n2 := 1) (i 0) (i 1) (i 2))).sle 16383#32)) = 1#1
    rw [hw]
    have hp := (p (i 0) (i 1)).isLt
    have h0 : (0#32 : BitVec 32).sle (BitVec.ofNat 32 (p (i 0) (i 1)).val) = true := by
      rw [BitVec.sle, toInt_column]; simp
    have h1 : (BitVec.ofNat 32 (p (i 0) (i 1)).val).sle 16383#32 = true := by
      rw [BitVec.sle, toInt_column]
      have : (16383#32 : BitVec 32).toInt = 16383 := by decide
      rw [this]
      exact decide_eq_true (by omega)
    rw [h0, h1]; rfl

/-- The reference's result. -/
def result (x : FVec Ideal S1024x16384 .f32) : FVec Ideal S1024x32 .f32 :=
  select (Host.reduce IntOp.andi (andi (cmpi .sge (wrapped (columns x)) (broadcastInDim S1024x32x1 ![] bcast_S_S1024x32x1 (constantI S_ 32 0#32)))
      (cmpi .sle (wrapped (columns x)) (broadcastInDim S1024x32x1 ![0, 1, 2] bcast_S1x1x1_S1024x32x1_0_1_2 (broadcastInDim S1x1x1 ![2] bcast_S1_S1x1x1_2 (constantI S1 32 16383#32)))))
      (constantI S_ 1 1#1) reducesTo_S1024x32x1_S1024x32_d2 h_S_)
    (Host.gather gather_S1024x16384_S1024x32x1_S1024x32_n_1_0_0_1_2_11 x (wrapped (columns x)))
    (broadcastInDim S1024x32 ![] bcast_S_S1024x32 (constant (F := Ideal) S_ .f32 0x7FC00000#32))

theorem result_apply (x : FVec Ideal S1024x16384 .f32) (r : Fin 1024) (k : Fin 32) :
    result x (ix2 (n0 := 1024) (n1 := 32) r k) = ranked x r k.val := by
  unfold result
  rw [take_apply x (columns x) (fun r k => order x r ⟨k.val, by omega⟩) (columns_apply x) r k]
  exact (ranked_eq x r ⟨k.val, by omega⟩).symm

/-- The reference's run ends with `result` of its argument. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = result (m ((c.tc : Thread nD τ).loc main_arg0))
      ∧ r.2.mem ((c.tc : Thread nD τ).loc main_arg0) = m ((c.tc : Thread nD τ).loc main_arg0) :=
  Value.run m ρ

end Cert.ReferenceIdealProof

end
-- ==== Proof.MaskRead.lean ====
/-
# 01_k: what the mask `separated` says

Where the mask is set at `(r, k)`, the row's `k`-th entry by falling value is the bottom, or the row's largest entry is
below the top, the row's first `k + 1` entries fall strictly, and no lane of a quarter of the row holds more than four
entries at or above the `k`-th (`mask_reads`).
-/
module

public import proofs.«01_k».proof.Proof.Ranked
public import proofs.«01_k».proof.Proof.Gen.On_separated
public import Idealize.ShloMosaic.Lib.ReduceAll
public import Idealize.ShloMosaic.Lib.IndicatorCount
public import Idealize.ShloMosaic.Lib.Pipeline.Value

@[expose] public section

noncomputable section

namespace Cert.MaskRead

open Cert.On_separated Cert.On_separated.Gen Cert.Ranked
open Idealize.ShloMosaic Idealize.ShloMosaic.ValueIdx Idealize.ShloMosaic.Pipeline

theorem ofBits_negInf : (FloatOps.ofBits .f32 0xFF800000#32 : Ideal .f32) = (⊥ : EReal) := by
  show Ideal.ofBits .f32 0xFF800000#32 = ⊥
  simp [Ideal.ofBits, Ideal.ieee]

theorem ofBits_posInf : (FloatOps.ofBits .f32 0x7F800000#32 : Ideal .f32) = (⊤ : EReal) := by
  show Ideal.ofBits .f32 0x7F800000#32 = ⊤
  simp [Ideal.ofBits, Ideal.ieee]

/-! ## One-bit words -/

theorem ofBool_eq_one {p : Prop} [Decidable p] : BitVec.ofBool (decide p) = 1#1 ↔ p := by
  by_cases h : p
  · rw [decide_eq_true h]; exact ⟨fun _ => h, fun _ => rfl⟩
  · rw [decide_eq_false h]; exact ⟨fun e => absurd e (by decide), fun hp => absurd hp h⟩

theorem ori_eq_one : ∀ a b : BitVec 1, IntOp.ori a b = 1#1 → a = 1#1 ∨ b = 1#1 := by decide
theorem andi_eq_one : ∀ a b : BitVec 1, IntOp.andi a b = 1#1 → a = 1#1 ∧ b = 1#1 := by decide

/-! ## The pieces -/

/-- The row's 32 largest entries. -/
def values (x : FVec Ideal S1024x16384 .f32) : FVec Ideal S1024x32 .f32 :=
  (Host.topK S1024x32 1 (FloatOps.cmpfTotal (F := Ideal) (φ := .f32) .gt) x sliceFits_S1024x16384_S1024x32).1

theorem values_apply (x : FVec Ideal S1024x16384 .f32) (r : Fin 1024) (k : Fin 32) :
    values x (ix2 (n0 := 1024) (n1 := 32) r k) = ranked x r k.val := by
  have e : values x (ix2 (n0 := 1024) (n1 := 32) r k) = entry x r (order x r ⟨k.val, by omega⟩) := by
    unfold values Host.topK
    show extractStridedSlice S1024x32 (fun _ => 0) (Host.sort2 S1024x16384 1 (fun l r => FloatOps.cmpfTotal (F := Ideal) (φ := .f32) .gt l.1 r.1) x
      (fun i => if hd : 1 < S1024x16384.rank then iotaInDim S1024x16384 32 ⟨1, hd⟩ i else 0#32)).1 sliceFits_S1024x16384_S1024x32
      (ix2 (n0 := 1024) (n1 := 32) r k) = _
    rw [extractStridedSlice_apply (fun _ => 0) _ sliceFits_S1024x16384_S1024x32 (ix2 (n0 := 1024) (n1 := 32) r k)
      (ix2 (n0 := 1024) (n1 := 16384) r ⟨k.val, by omega⟩) (by
        intro a
        match a with
        | ⟨0, _⟩ => show r.val = 0 + r.val; omega
        | ⟨1, _⟩ => show k.val = 0 + k.val; omega)]
    refine sort_fst _ _ _ x (fun r k k' => ?_) r _
    show (BitVec.ofBool (decide (entry x r k' < entry x r k)) == 1#1) = _
    cases decide (entry x r k' < entry x r k) <;> rfl
  rw [e]
  exact (ranked_eq x r ⟨k.val, by omega⟩).symm

/-- Each value above the next, or past the column asked. -/
def falling (v : FVec Ideal S1024x32 .f32) : IVec S1024x32x31 1 :=
  ori (broadcastInDim S1024x32x31 ![0, 1, 2] bcast_S1024x1x31_S1024x32x31_0_1_2
      (broadcastInDim S1024x1x31 ![0, 2] bcast_S1024x31_S1024x1x31_0_2
        (cmpf .ogt (extractStridedSlice S1024x31 ![0, 0] v slices_S1024x32_S1024x31_0_0) (extractStridedSlice S1024x31 ![0, 1] v slices_S1024x32_S1024x31_0_1))))
    (broadcastInDim S1024x32x31 ![0, 1, 2] bcast_S1x32x31_S1024x32x31_0_1_2
      (broadcastInDim S1x32x31 ![1, 2] bcast_S32x31_S1x32x31_1_2
        (cmpi .sge (broadcastInDim S32x31 ![0, 1] bcast_S1x31_S32x31_0_1 (broadcastInDim S1x31 ![1] bcast_S31_S1x31_1 (iotaInDim S31 32 0)))
          (broadcastInDim S32x31 ![0, 1] bcast_S32x1_S32x31_0_1 (broadcastInDim S32x1 ![0] bcast_S32_S32x1_0 (iotaInDim S32 32 0))))))

theorem falling_reads (v : FVec Ideal S1024x32 .f32) (r : Fin 1024) (k : Fin 32) (j : Fin 31) (hjk : j.val < k.val)
    (h : falling v (ix3 (n0 := 1024) (n1 := 32) (n2 := 31) r k j) = 1#1) :
    (v (ix2 (n0 := 1024) (n1 := 32) r ⟨j.val + 1, by omega⟩) : EReal) < v (ix2 (n0 := 1024) (n1 := 32) r ⟨j.val, by omega⟩) := by
  rcases ori_eq_one _ _ h with h | h
  · rw [broadcastInDim_apply ![0, 1, 2] bcast_S1024x1x31_S1024x32x31_0_1_2 _ (ix3 (n0 := 1024) (n1 := 32) (n2 := 31) r k j)
        (ix3 (n0 := 1024) (n1 := 1) (n2 := 31) r 0 j) (by intro a; match a with | ⟨0, _⟩ => rfl | ⟨1, _⟩ => rfl | ⟨2, _⟩ => rfl),
      broadcastInDim_apply ![0, 2] bcast_S1024x31_S1024x1x31_0_2 _ (ix3 (n0 := 1024) (n1 := 1) (n2 := 31) r 0 j)
        (ix2 (n0 := 1024) (n1 := 31) r j) (by intro a; match a with | ⟨0, _⟩ => rfl | ⟨1, _⟩ => rfl),
      cmpf_apply,
      extractStridedSlice_apply ![0, 0] _ slices_S1024x32_S1024x31_0_0 (ix2 (n0 := 1024) (n1 := 31) r j) (ix2 (n0 := 1024) (n1 := 32) r ⟨j.val, by omega⟩) (by
        intro a
        match a with
        | ⟨0, _⟩ => show r.val = 0 + r.val; omega
        | ⟨1, _⟩ => show j.val = 0 + j.val; omega),
      extractStridedSlice_apply ![0, 1] _ slices_S1024x32_S1024x31_0_1 (ix2 (n0 := 1024) (n1 := 31) r j) (ix2 (n0 := 1024) (n1 := 32) r ⟨j.val + 1, by omega⟩) (by
        intro a
        match a with
        | ⟨0, _⟩ => show r.val = 0 + r.val; omega
        | ⟨1, _⟩ => show j.val + 1 = 1 + j.val; omega)] at h
    exact ofBool_eq_one.1 h
  · rw [broadcastInDim_apply ![0, 1, 2] bcast_S1x32x31_S1024x32x31_0_1_2 _ (ix3 (n0 := 1024) (n1 := 32) (n2 := 31) r k j)
        (ix3 (n0 := 1) (n1 := 32) (n2 := 31) 0 k j) (by intro a; match a with | ⟨0, _⟩ => rfl | ⟨1, _⟩ => rfl | ⟨2, _⟩ => rfl),
      broadcastInDim_apply ![1, 2] bcast_S32x31_S1x32x31_1_2 _ (ix3 (n0 := 1) (n1 := 32) (n2 := 31) 0 k j)
        (ix2 (n0 := 32) (n1 := 31) k j) (by intro a; match a with | ⟨0, _⟩ => rfl | ⟨1, _⟩ => rfl)] at h
    have h' : BitVec.ofBool ((BitVec.ofNat 32 k.val).sle (BitVec.ofNat 32 j.val)) = 1#1 := h
    have hs : ∀ n : ℕ, n < 32 → (BitVec.ofNat 32 n).toInt = n := by
      intro n hn
      rw [BitVec.toInt_eq_toNat_cond, BitVec.toNat_ofNat, Nat.mod_eq_of_lt (by omega), if_pos (by omega)]
    rw [BitVec.sle, hs k.val (by omega), hs j.val (by omega)] at h'
    have := ofBool_eq_one.1 h'
    omega

/-- An entry at or above a value, by quarter, slab and lane. -/
def hits (x : FVec Ideal S1024x16384 .f32) (v : FVec Ideal S1024x32 .f32) : IVec S1024x4x32x128x32 1 :=
  cmpf .oge (broadcastInDim S1024x4x32x128x32 ![0, 1, 2, 3, 4] bcast_S1024x4x32x128x1_S1024x4x32x128x32_0_1_2_3_4
      (shapeCast S1024x4x32x128x1 x shapeCasts_S1024x16384_S1024x4x32x128x1))
    (broadcastInDim S1024x4x32x128x32 ![0, 1, 2, 3, 4] bcast_S1024x1x1x1x32_S1024x4x32x128x32_0_1_2_3_4
      (shapeCast S1024x1x1x1x32 v shapeCasts_S1024x32_S1024x1x1x1x32))

theorem hits_apply (x : FVec Ideal S1024x16384 .f32) (v : FVec Ideal S1024x32 .f32) (r : Fin 1024) (q : Fin 4) (s : Fin 32) (l : Fin 128) (k : Fin 32) :
    hits x v (ix5 (n0 := 1024) (n1 := 4) (n2 := 32) (n3 := 128) (n4 := 32) r q s l k) = 1#1
      ↔ (v (ix2 (n0 := 1024) (n1 := 32) r k) : EReal) ≤ entry x r ⟨4096 * q.val + 128 * s.val + l.val, by omega⟩ := by
  unfold hits
  rw [cmpf_apply,
    broadcastInDim_apply ![0, 1, 2, 3, 4] bcast_S1024x4x32x128x1_S1024x4x32x128x32_0_1_2_3_4 _
      (ix5 (n0 := 1024) (n1 := 4) (n2 := 32) (n3 := 128) (n4 := 32) r q s l k) (ix5 (n0 := 1024) (n1 := 4) (n2 := 32) (n3 := 128) (n4 := 1) r q s l 0)
      (by intro a; match a with | ⟨0, _⟩ => rfl | ⟨1, _⟩ => rfl | ⟨2, _⟩ => rfl | ⟨3, _⟩ => rfl | ⟨4, _⟩ => rfl),
    broadcastInDim_apply ![0, 1, 2, 3, 4] bcast_S1024x1x1x1x32_S1024x4x32x128x32_0_1_2_3_4 _
      (ix5 (n0 := 1024) (n1 := 4) (n2 := 32) (n3 := 128) (n4 := 32) r q s l k) (ix5 (n0 := 1024) (n1 := 1) (n2 := 1) (n3 := 1) (n4 := 32) r 0 0 0 k)
      (by intro a; match a with | ⟨0, _⟩ => rfl | ⟨1, _⟩ => rfl | ⟨2, _⟩ => rfl | ⟨3, _⟩ => rfl | ⟨4, _⟩ => rfl),
    shapeCast_apply x shapeCasts_S1024x16384_S1024x4x32x128x1 (ix5 (n0 := 1024) (n1 := 4) (n2 := 32) (n3 := 128) (n4 := 1) r q s l 0)
      (ix2 (n0 := 1024) (n1 := 16384) r ⟨4096 * q.val + 128 * s.val + l.val, by omega⟩) (by
        rw [Shape.rowMajor_val_two, Shape.rowMajor_val_five]
        show r.val * 16384 + (4096 * q.val + 128 * s.val + l.val) = (((r.val * 4 + q.val) * 32 + s.val) * 128 + l.val) * 1 + 0
        omega),
    shapeCast_apply v shapeCasts_S1024x32_S1024x1x1x1x32 (ix5 (n0 := 1024) (n1 := 1) (n2 := 1) (n3 := 1) (n4 := 32) r 0 0 0 k)
      (ix2 (n0 := 1024) (n1 := 32) r k) (by
        rw [Shape.rowMajor_val_two, Shape.rowMajor_val_five]
        show r.val * 32 + k.val = (((r.val * 1 + 0) * 1 + 0) * 1 + 0) * 32 + k.val
        omega)]
  exact ofBool_eq_one

/-- At most four hits in a lane of a quarter. -/
def spread (b : IVec S1024x4x32x128x32 1) : IVec S1024x4x128x32 1 :=
  cmpi .sle (Host.reduce IntOp.addi (extui 32 b natLt_1_32) (constantI S_ 32 0#32) reducesTo_S1024x4x32x128x32_S1024x4x128x32_d2 h_S_)
    (broadcastInDim S1024x4x128x32 ![] bcast_S_S1024x4x128x32 (constantI S_ 32 4#32))

theorem reduces_slab : S1024x4x32x128x32.Reduces [2] S1024x4x128x32 := by decide

theorem spread_reads (b : IVec S1024x4x32x128x32 1) (r : Fin 1024) (q : Fin 4) (l : Fin 128) (k : Fin 32)
    (h : spread b (ix4 (n0 := 1024) (n1 := 4) (n2 := 128) (n3 := 32) r q l k) = 1#1) :
    ((Finset.univ : Finset (Fin 32)).filter fun s => b (ix5 (n0 := 1024) (n1 := 4) (n2 := 32) (n3 := 128) (n4 := 32) r q s l k) = 1#1).card ≤ 4 := by
  have hlift : ∀ s : Fin 32, reduces_slab.lift (ix4 (n0 := 1024) (n1 := 4) (n2 := 128) (n3 := 32) r q l k) s
      = ix5 (n0 := 1024) (n1 := 4) (n2 := 32) (n3 := 128) (n4 := 32) r q s l k := by
    intro s
    funext a
    match a with | ⟨0, _⟩ => rfl | ⟨1, _⟩ => rfl | ⟨2, _⟩ => rfl | ⟨3, _⟩ => rfl | ⟨4, _⟩ => rfl
  have e : Host.reduce IntOp.addi (extui 32 b natLt_1_32) (constantI S_ 32 0#32) reducesTo_S1024x4x32x128x32_S1024x4x128x32_d2 h_S_
        (ix4 (n0 := 1024) (n1 := 4) (n2 := 128) (n3 := 32) r q l k)
      = BitVec.ofNat 32 ((Finset.univ : Finset (Fin 32)).filter fun s => b (ix5 (n0 := 1024) (n1 := 4) (n2 := 32) (n3 := 128) (n4 := 32) r q s l k) = 1#1).card := by
    rw [Host.reduce_eq_fold_single IntOp.addi _ _ _ reduces_slab, ← IndicatorCount.fold_addi_setWidth_eq_card]
    refine congrArg (fun u => (Finset.univ : Finset (Fin 32)).fold IntOp.addi 0#32 u) (funext fun (s : Fin 32) => ?_)
    show (b (reduces_slab.lift (ix4 (n0 := 1024) (n1 := 4) (n2 := 128) (n3 := 32) r q l k) s)).setWidth 32 = _
    rw [hlift s]
  have hc : ((Finset.univ : Finset (Fin 32)).filter fun s => b (ix5 (n0 := 1024) (n1 := 4) (n2 := 32) (n3 := 128) (n4 := 32) r q s l k) = 1#1).card ≤ 32 :=
    (Finset.card_le_univ _).trans (by rw [Fintype.card_fin])
  have h' : BitVec.ofBool ((Host.reduce IntOp.addi (extui 32 b natLt_1_32) (constantI S_ 32 0#32) reducesTo_S1024x4x32x128x32_S1024x4x128x32_d2 h_S_
      (ix4 (n0 := 1024) (n1 := 4) (n2 := 128) (n3 := 32) r q l k)).sle 4#32) = 1#1 := h
  rw [e] at h'
  generalize ((Finset.univ : Finset (Fin 32)).filter fun s => b (ix5 (n0 := 1024) (n1 := 4) (n2 := 32) (n3 := 128) (n4 := 32) r q s l k) = 1#1).card = n at h' hc ⊢
  have hs : (BitVec.ofNat 32 n).toInt = n := by
    rw [BitVec.toInt_eq_toNat_cond, BitVec.toNat_ofNat, Nat.mod_eq_of_lt (by omega), if_pos (by omega)]
  have h4 : (4#32 : BitVec 32).toInt = 4 := by decide
  rw [BitVec.sle, hs, h4] at h'
  have := ofBool_eq_one.1 h'
  omega

/-! ## The mask -/

theorem fn_eq (x : FVec Ideal S1024x16384 .f32) :
    fn (F := Ideal) x = ori (cmpf .oeq (values x) (broadcastInDim S1024x32 ![] bcast_S_S1024x32 (constant (F := Ideal) S_ .f32 0xFF800000#32)))
      (andi (andi (broadcastInDim S1024x32 ![0, 1] bcast_S1024x1_S1024x32_0_1
          (cmpf .olt (extractStridedSlice S1024x1 ![0, 0] (values x) slices_S1024x32_S1024x1_0_0)
            (broadcastInDim S1024x1 ![] bcast_S_S1024x1 (constant (F := Ideal) S_ .f32 0x7F800000#32))))
          (Host.reduce IntOp.andi (falling (values x)) (constantI S_ 1 1#1) reducesTo_S1024x32x31_S1024x32_d2 h_S_))
        (Host.reduce IntOp.andi (spread (hits x (values x))) (constantI S_ 1 1#1) reducesTo_S1024x4x128x32_S1024x32_d1_2 h_S_)) := rfl

theorem mask_reads (x : FVec Ideal S1024x16384 .f32) (r : Fin 1024) (k : Fin 32) (h : fn (F := Ideal) x (ix2 (n0 := 1024) (n1 := 32) r k) = 1#1) :
    ranked x r k.val = ⊥ ∨ (ranked x r 0 < ⊤ ∧ (∀ j < k.val, ranked x r (j + 1) < ranked x r j)
      ∧ ∀ (q : Fin 4) (l : Fin 128), ((Finset.univ : Finset (Fin 32)).filter fun s => ranked x r k.val ≤ entry x r ⟨4096 * q.val + 128 * s.val + l.val, by omega⟩).card ≤ 4) := by
  rw [fn_eq] at h
  rcases ori_eq_one _ _ h with h | h
  · left
    rw [cmpf_apply] at h
    have h' := ofBool_eq_one.1 (show BitVec.ofBool (decide ((values x (ix2 (n0 := 1024) (n1 := 32) r k) : EReal)
      = (FloatOps.ofBits .f32 0xFF800000#32 : Ideal .f32))) = 1#1 from h)
    rw [values_apply, ofBits_negInf] at h'
    exact h'
  · right
    obtain ⟨h, h3⟩ := andi_eq_one _ _ h
    obtain ⟨h1, h2⟩ := andi_eq_one _ _ h
    refine ⟨?_, ?_, ?_⟩
    · rw [broadcastInDim_apply ![0, 1] bcast_S1024x1_S1024x32_0_1 _ (ix2 (n0 := 1024) (n1 := 32) r k) (ix2 (n0 := 1024) (n1 := 1) r 0)
        (by intro a; match a with | ⟨0, _⟩ => rfl | ⟨1, _⟩ => rfl), cmpf_apply,
        extractStridedSlice_apply ![0, 0] _ slices_S1024x32_S1024x1_0_0 (ix2 (n0 := 1024) (n1 := 1) r 0) (ix2 (n0 := 1024) (n1 := 32) r 0) (by
          intro a
          match a with
          | ⟨0, _⟩ => show r.val = 0 + r.val; omega
          | ⟨1, _⟩ => rfl)] at h1
      have h' := ofBool_eq_one.1 (show BitVec.ofBool (decide ((values x (ix2 (n0 := 1024) (n1 := 32) r 0) : EReal)
        < (FloatOps.ofBits .f32 0x7F800000#32 : Ideal .f32))) = 1#1 from h1)
      rw [values_apply, ofBits_posInf] at h'
      exact h'
    · intro j hj
      have hk := k.isLt
      have hr := Host.reduce_andi_eq_one _ _ _ _ _ h2 (ix3 (n0 := 1024) (n1 := 32) (n2 := 31) r k ⟨j, by omega⟩) (by
        funext a
        match a with | ⟨0, _⟩ => rfl | ⟨1, _⟩ => rfl)
      have := falling_reads (values x) r k ⟨j, by omega⟩ hj hr
      rw [values_apply, values_apply] at this
      exact this
    · intro q l
      have hr := Host.reduce_andi_eq_one _ _ _ _ _ h3 (ix4 (n0 := 1024) (n1 := 4) (n2 := 128) (n3 := 32) r q l k) (by
        funext a
        match a with | ⟨0, _⟩ => rfl | ⟨1, _⟩ => rfl)
      have := spread_reads _ r q l k hr
      refine le_trans (le_of_eq (congrArg Finset.card (Finset.filter_congr fun s _ => ?_))) this
      rw [hits_apply, values_apply]

end Cert.MaskRead

end
-- ==== Proof.Value.lean ====
/-
# 01_k: the kernel's result against the reference's

The four devices' halves are the four quarters of a row (`quarter_entry`), so a device's result is taken from the four
quarters' lists, each taken from its quarter's candidates, each taken from its lane: by `TopList.two_rounds` it is the
row's `k`-th entry by falling value wherever the mask is set (`kernel_value`), which is what the reference returns.
-/
module

public import proofs.«01_k».proof.Defs
public import proofs.«01_k».proof.Proof.KernelIdealLaunch
public import proofs.«01_k».proof.Proof.KernelIdealValue
public import proofs.«01_k».proof.Proof.ReferenceValue
public import proofs.«01_k».proof.Proof.MaskRead
public import Idealize.ShloMosaic.Lib.Layout

@[expose] public section

noncomputable section

namespace Cert.Value

open Cert.KernelIdeal Cert.KernelIdeal.Gen Cert.KernelIdealProof Cert.TopList Cert.Ranked
open Idealize.ShloMosaic Idealize.ShloMosaic.TcCoe Idealize.ShloMosaic.ValueIdx

/-- Every device's argument is its column block of the array `X`. -/
def Split (m : (ℓ : Loc nD τ sig) → Buf (Elt Ideal) ℓ) (X : FVec Ideal SX .f32) : Prop :=
  ∀ c : Dev nD, m ((c.tc : Thread nD τ).loc main_arg0)
    = Layout.blockN ⟨2, ![1024, 8192]⟩ ⟨2, ![1024, 16384]⟩ (Layout.meshBlock [2, 2] ![[], [0]] c) X

variable (m : (ℓ : Loc nD τ sig) → Buf (Elt Ideal) ℓ) (ρ : Dev nD → PrngReg) (X : FVec Ideal SX .f32) (hX : Split m X)

theorem column_block : ∀ d : Dev nD, ((Layout.meshBlock [2, 2] ![[], [0]] d : (b : Fin 2) → _) 1).val = d.val / 2 := by decide
theorem row_block : ∀ d : Dev nD, ((Layout.meshBlock [2, 2] ![[], [0]] d : (b : Fin 2) → _) 0).val = 0 := by decide

include hX in
/-- Device `d`'s half is quarter `d` of the row. -/
theorem quarter_entry (d : Dev nD) (r : Fin 1024) (l : Fin 128) (s : Fin 32) (hd : d.val < 4) :
    laneEntry d (xstg m ρ d) r l s = entry X r ⟨4096 * d.val + 128 * s.val + l.val, by omega⟩ := by
  unfold laneEntry entry
  rw [xstg_eq, hX d, Layout.blockN_apply]
  refine congrArg X (funext fun b => Fin.ext ?_)
  rw [Layout.TilesN.idx_val]
  match b with
  | ⟨0, _⟩ =>
    show ((Layout.meshBlock [2, 2] ![[], [0]] d : (b : Fin 2) → _) 0).val * 1024 + r.val = r.val
    rw [row_block]; omega
  | ⟨1, _⟩ =>
    show ((Layout.meshBlock [2, 2] ![[], [0]] d : (b : Fin 2) → _) 1).val * 8192 + (4096 * (d.val % 2) + 128 * s.val + l.val) = 4096 * d.val + 128 * s.val + l.val
    rw [column_block]; omega

/-- The devices whose lists device `c` holds, in the order it keeps them. -/
def source (c : Dev nD) : Fin 4 → Dev nD := ![c, peer 0 c, peer 1 c, peer 2 c]

theorem source_surjective : ∀ (c : Dev nD) (q : Fin 4), ∃ q', source c q' = (⟨q.val, q.isLt⟩ : Dev nD) := by decide

theorem list_source (c : Dev nD) (q : Fin 4) :
    (![lst m ρ c, lst m ρ (peer 0 c), lst m ρ (peer 1 c), lst m ρ (peer 2 c)] : Fin 4 → Vec Ideal S1024x32 .f32) q = lst m ρ (source c q) := by
  match q with
  | ⟨0, _⟩ => rfl
  | ⟨1, _⟩ => rfl
  | ⟨2, _⟩ => rfl
  | ⟨3, _⟩ => rfl

include hX in
/-- The kernel's result where the mask is set. -/
theorem kernel_value (c : Dev nD) (r : Fin 1024) (k : Fin 32)
    (hm : Cert.On_separated.fn (F := Ideal) X (ix2 (n0 := 1024) (n1 := 32) r k) = 1#1) :
    outAt m ρ c (ix2 (n0 := 1024) (n1 := 32) r k) = ranked X r k.val := by
  unfold outAt
  rw [outC_apply]
  refine two_rounds (f := entry X r) (t := ranked X r) (N := 16384) (ranked_lists X r)
    (x := fun q s l => entry X r ⟨4096 * q.val + 128 * s.val + l.val, by omega⟩)
    (fun q s l => ⟨_, rfl⟩) (fun i => ?_)
    (cand := fun q j => candC (⟨q.val, q.isLt⟩ : Dev nD) (xstg m ρ ⟨q.val, q.isLt⟩) (ix2 (n0 := 1024) (n1 := 512) r j)) (fun q j => ?_)
    (own := fun q p => lst m ρ ⟨q.val, q.isLt⟩ (ix2 (n0 := 1024) (n1 := 32) r p)) (fun q p => ltC_apply _ _ r p)
    (fun j => ?_) (fun q p => ?_) k.isLt (by decide) (MaskRead.mask_reads X r k hm)
  · have hi := i.isLt
    refine ⟨⟨i.val / 4096, by omega⟩, ⟨i.val % 4096 / 128, by omega⟩, ⟨i.val % 128, by omega⟩, congrArg (entry X r) (Fin.ext ?_)⟩
    show 4096 * (i.val / 4096) + 128 * (i.val % 4096 / 128) + i.val % 128 = i.val
    omega
  · refine (candC_apply _ _ r j).trans (congrArg (fun f => taken f (j.val / 128 + 1)) (funext fun s => ?_))
    exact quarter_entry m ρ X hX ⟨q.val, q.isLt⟩ r _ s q.isLt
  · have hj := j.isLt
    have e := lists_apply (lst m ρ c) (lst m ρ (peer 0 c)) (lst m ρ (peer 1 c)) (lst m ρ (peer 2 c)) r ⟨j.val / 32, by omega⟩ ⟨j.val % 32, by omega⟩
    have hj' : (⟨32 * (j.val / 32) + j.val % 32, by omega⟩ : Fin 128) = j := Fin.ext (by show 32 * (j.val / 32) + j.val % 32 = j.val; omega)
    rw [list_source, hj'] at e
    exact ⟨⟨(source c ⟨j.val / 32, by omega⟩).val, (source c ⟨j.val / 32, by omega⟩).isLt⟩, ⟨j.val % 32, by omega⟩, e⟩
  · obtain ⟨q', hq'⟩ := source_surjective c q
    refine ⟨⟨32 * q'.val + p.val, by omega⟩, ?_⟩
    rw [lists_apply, list_source, hq']

end Cert.Value

end
-- ==== Proof.lean ====
/-
# The claims

The kernel's two programs run to the end with their argument unchanged and every semaphore at rest; so does the reference.
At the extended reals every device's result is the reference's at the entries the mask sets.
-/
module

public import proofs.«01_k».proof.Defs
public import proofs.«01_k».proof.Proof.Gen.ReferenceIdeal
public import proofs.«01_k».proof.Proof.Gen.ReferenceIdeal.Run
public import proofs.«01_k».proof.Proof.Gen.On_separated
public import proofs.«01_k».proof.Proof.KernelLaunch
public import proofs.«01_k».proof.Proof.KernelIdealLaunch
public import proofs.«01_k».proof.Proof.Value
public import Idealize.ShloMosaic.Lib.Quiescent

@[expose] public section

noncomputable section

namespace Cert.Proof

open Idealize.ShloMosaic Idealize.ShloMosaic.TcCoe Idealize.SL.Sem

/-- The kernel as written: its run, with the contents of its result dropped. -/
theorem quiescent_kernel : Cert.quiescent_Kernel := fun m g _ =>
  (θ_run Cert.Kernel.defs _ _).mono (fun _ h => ⟨fun c => (h.1 c).2, h.2⟩) (Cert.KernelProof.run_read (F := Bits) m g)

/-- The same of the kernel read at the extended reals. -/
theorem quiescent_kernelIdeal : Cert.quiescent_KernelIdeal := fun m g _ =>
  (θ_run Cert.KernelIdeal.defs _ _).mono (fun _ h => ⟨fun c => (h.1 c).2, h.2⟩) (Cert.KernelIdealProof.run_read (F := Ideal) m g)

/-- The reference has no semaphore; its run leaves its argument as it was. -/
theorem quiescent_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device's result is the reference's, where the mask is set. -/
theorem algebraic : Cert.algebraic_KernelIdeal_ReferenceIdeal_on_separated := by
  intro m g m' g' _ hX
  refine ⟨Cert.ReferenceIdealProof.result (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨fun i hi => ?_, (h.1 c).2⟩) (Cert.KernelIdealProof.run_read (F := Ideal) m g),
    (θ_run Cert.ReferenceIdeal.defs _ _).mono (fun _ h => ⟨fun i _ => congrFun (h 0).1 i, (h 0).2⟩) (Cert.ReferenceIdealProof.run_result m' g')⟩
  rw [ValueIdx.eq_ix2 i] at hi ⊢
  rw [(h.1 c).1]
  exact (Cert.Value.kernel_value m g _ hX c (i 0) (i 1) hi).trans (Cert.ReferenceIdealProof.result_apply _ (i 0) (i 1)).symm

theorem claim : Cert.Claim :=
  ⟨Cert.Kernel.Gen.facts, Cert.KernelIdeal.Gen.facts, Cert.ReferenceIdeal.Gen.facts, Cert.On_separated.Gen.facts,
    quiescent_kernel, quiescent_kernelIdeal, quiescent_referenceIdeal, trivial, algebraic⟩

end Cert.Proof

end
